-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S336x1024 : Shape := ⟨2, ![336, 1024]⟩
abbrev S224x1024 : Shape := ⟨2, ![224, 1024]⟩
abbrev S192x1024 : Shape := ⟨2, ![192, 1024]⟩
abbrev S128x1024 : Shape := ⟨2, ![128, 1024]⟩
abbrev S6x6 : Shape := ⟨2, ![6, 6]⟩
abbrev S1x1 : Shape := ⟨2, ![1, 1]⟩
abbrev S_ : Shape := ⟨0, ![]⟩
abbrev S96x1024 : Shape := ⟨2, ![96, 1024]⟩
abbrev S64x1024 : Shape := ⟨2, ![64, 1024]⟩
abbrev S48x1024 : Shape := ⟨2, ![48, 1024]⟩
abbrev S32x1024 : Shape := ⟨2, ![32, 1024]⟩

abbrev nBuf : Space → Nat
  | .hbm => 2
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S336x1024, .bf16⟩
  | .local _ .vmem, ⟨1, _⟩ => ⟨S336x1024, .bf16⟩
  | .local _ .vmem, ⟨2, _⟩ => ⟨S336x1024, .bf16⟩
  | .local _ .vmem, ⟨3, _⟩ => ⟨S336x1024, .bf16⟩
  | .local _ .vmem, ⟨4, _⟩ => ⟨S224x1024, .bf16⟩
  | .local _ .vmem, ⟨5, _⟩ => ⟨S224x1024, .bf16⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S128x1024, .f32⟩
  | .local _ .vmem, ⟨11, _⟩ => ⟨S128x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | .local _ .vmem, ⟨16, _⟩ => ⟨S128x1024, .f32⟩
  | .local _ .vmem, ⟨17, _⟩ => ⟨S128x1024, .f32⟩
  | .local _ .vmem, ⟨18, _⟩ => ⟨S192x1024, .bf16⟩
  | .local _ .vmem, ⟨19, _⟩ => ⟨S192x1024, .bf16⟩
  | .local _ .vmem, ⟨20, _⟩ => ⟨S192x1024, .bf16⟩
  | .local _ .vmem, ⟨21, _⟩ => ⟨S192x1024, .bf16⟩
  | .local _ .vmem, ⟨22, _⟩ => ⟨S128x1024, .bf16⟩
  | .local _ .vmem, ⟨23, _⟩ => ⟨S128x1024, .bf16⟩
  | .local _ .vmem, ⟨24, _⟩ => ⟨S336x1024, .f32⟩
  | .local _ .vmem, ⟨25, _⟩ => ⟨S336x1024, .f32⟩
  | .local _ .vmem, ⟨26, _⟩ => ⟨S336x1024, .f32⟩
  | .local _ .vmem, ⟨27, _⟩ => ⟨S336x1024, .f32⟩
  | .local _ .vmem, ⟨28, _⟩ => ⟨S224x1024, .f32⟩
  | .local _ .vmem, ⟨29, _⟩ => ⟨S224x1024, .f32⟩
  | .local _ .vmem, ⟨30, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 1 → Bool
  | ⟨0, _⟩ => false
  | _ => false

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  (ofTc nBuf bufTy 1 108 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩
abbrev cc0_scratch24 : Ref sig .tc := ⟨.vmem, 24, rfl⟩
abbrev cc0_scratch25 : Ref sig .tc := ⟨.vmem, 25, rfl⟩
abbrev cc0_scratch26 : Ref sig .tc := ⟨.vmem, 26, rfl⟩
abbrev cc0_scratch27 : Ref sig .tc := ⟨.vmem, 27, rfl⟩
abbrev cc0_scratch28 : Ref sig .tc := ⟨.vmem, 28, rfl⟩
abbrev cc0_scratch29 : Ref sig .tc := ⟨.vmem, 29, rfl⟩
abbrev cc0_scratch30 : Ref sig .tc := ⟨.vmem, 30, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32 : BitVec 32 := 192#32
  let v10 : BitVec 32 := Scalar.muli v5 c192_i32
  let v11 : BitVec 32 := Scalar.addi c0_i32 v10
  let c0_i32_9 : BitVec 32 := 0#32
  ![v11.toNat, 0]
def k0_off2 (d0 : Dev nD) (c0_i32_12 : BitVec 32) : Fin 2 → Nat :=
  let c1_i32_10 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v16 : BitVec 32 := Scalar.subi c1_i32_10 v5
  let c192_i32_11 : BitVec 32 := 192#32
  let v17 : BitVec 32 := Scalar.muli v16 c192_i32_11
  let v18 : BitVec 32 := Scalar.addi c0_i32_12 v17
  let c0_i32_15 : BitVec 32 := 0#32
  ![v18.toNat, 0]
def k0_off3 (d0 : Dev nD) (c768_i32 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c192_i32_16 : BitVec 32 := 192#32
  let v22 : BitVec 32 := Scalar.muli v7 c192_i32_16
  let v23 : BitVec 32 := Scalar.addi c768_i32 v22
  let c0_i32_21 : BitVec 32 := 0#32
  ![v23.toNat, 0]
def k0_off3_at (r : Fin 2) : BitVec 32 × BitVec 32 :=
  if r.val < 1 then
    (768#32, 1#32)
  else
    (1408#32, 2#32)
def k0_off4 (d0 : Dev nD) (c768_i32_24 : BitVec 32) (c1_i32_2 : BitVec 32) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v28 : BitVec 32 := Scalar.subi c1_i32_22 v7
  let c192_i32_23 : BitVec 32 := 192#32
  let v29 : BitVec 32 := Scalar.muli v28 c192_i32_23
  let v30 : BitVec 32 := Scalar.addi c768_i32_24 v29
  let c0_i32_27 : BitVec 32 := 0#32
  ![v30.toNat, 0]
def k0_off4_at (r : Fin 2) : BitVec 32 × BitVec 32 :=
  if r.val < 1 then
    (768#32, 1#32)
  else
    (1408#32, 2#32)
def k0_off5 (d0 : Dev nD) (c1152_i32 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c128_i32 : BitVec 32 := 128#32
  let v58 : BitVec 32 := Scalar.muli v7 c128_i32
  let v59 : BitVec 32 := Scalar.addi c1152_i32 v58
  let c0_i32_54 : BitVec 32 := 0#32
  ![v59.toNat, 0]
def k0_off5_at (r : Fin 2) : BitVec 32 × BitVec 32 :=
  if r.val < 1 then
    (1152#32, 1#32)
  else
    (1792#32, 2#32)
def k0_off6 (d0 : Dev nD) (c1152_i32_57 : BitVec 32) (c1_i32_2 : BitVec 32) : Fin 2 → Nat :=
  let c1_i32_55 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v64 : BitVec 32 := Scalar.subi c1_i32_55 v7
  let c128_i32_56 : BitVec 32 := 128#32
  let v65 : BitVec 32 := Scalar.muli v64 c128_i32_56
  let v66 : BitVec 32 := Scalar.addi c1152_i32_57 v65
  let c0_i32_60 : BitVec 32 := 0#32
  ![v66.toNat, 0]
def k0_off6_at (r : Fin 2) : BitVec 32 × BitVec 32 :=
  if r.val < 1 then
    (1152#32, 1#32)
  else
    (1792#32, 2#32)
def k0_dev1 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v83 : BitVec 32 := Scalar.xori v2 c1_i32_72
  let c1_i32_74 : BitVec 32 := 1#32
  let v84 : BitVec 32 := Scalar.muli v83 c1_i32_74
  let v85 : BitVec 32 := Scalar.addi c0_i32_75 v84
  v85.toNat
def k0_dev2 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_76 : BitVec 32 := 3#32
  let v86 : BitVec 32 := Scalar.xori v2 c3_i32_76
  let c1_i32_78 : BitVec 32 := 1#32
  let v87 : BitVec 32 := Scalar.muli v86 c1_i32_78
  let v88 : BitVec 32 := Scalar.addi c0_i32_79 v87
  v88.toNat
def k0_dev3 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_80 : BitVec 32 := 4#32
  let v89 : BitVec 32 := Scalar.xori v2 c4_i32_80
  let c1_i32_82 : BitVec 32 := 1#32
  let v90 : BitVec 32 := Scalar.muli v89 c1_i32_82
  let v91 : BitVec 32 := Scalar.addi c0_i32_83 v90
  v91.toNat
def k0_dev4 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_91 : BitVec 32 := 1#32
  let v100 : BitVec 32 := Scalar.xori v2 c1_i32_91
  let c1_i32_96 : BitVec 32 := 1#32
  let v101 : BitVec 32 := Scalar.muli v100 c1_i32_96
  let v102 : BitVec 32 := Scalar.addi c0_i32_97 v101
  v102.toNat
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_109 : BitVec 32 := 3#32
  let v117 : BitVec 32 := Scalar.xori v2 c3_i32_109
  let c1_i32_114 : BitVec 32 := 1#32
  let v118 : BitVec 32 := Scalar.muli v117 c1_i32_114
  let v119 : BitVec 32 := Scalar.addi c0_i32_115 v118
  v119.toNat
def k0_dev6 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v134 : BitVec 32 := Scalar.xori v2 c4_i32_127
  let c1_i32_132 : BitVec 32 := 1#32
  let v135 : BitVec 32 := Scalar.muli v134 c1_i32_132
  let v136 : BitVec 32 := Scalar.addi c0_i32_133 v135
  v136.toNat
def k0_dev7 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_145 : BitVec 32 := 1#32
  let v151 : BitVec 32 := Scalar.xori v2 c1_i32_145
  let c1_i32_150 : BitVec 32 := 1#32
  let v152 : BitVec 32 := Scalar.muli v151 c1_i32_150
  let v153 : BitVec 32 := Scalar.addi c0_i32_151 v152
  v153.toNat
def k0_dev8 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_163 : BitVec 32 := 3#32
  let v168 : BitVec 32 := Scalar.xori v2 c3_i32_163
  let c1_i32_168 : BitVec 32 := 1#32
  let v169 : BitVec 32 := Scalar.muli v168 c1_i32_168
  let v170 : BitVec 32 := Scalar.addi c0_i32_169 v169
  v170.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_181 : BitVec 32 := 4#32
  let v185 : BitVec 32 := Scalar.xori v2 c4_i32_181
  let c1_i32_186 : BitVec 32 := 1#32
  let v186 : BitVec 32 := Scalar.muli v185 c1_i32_186
  let v187 : BitVec 32 := Scalar.addi c0_i32_187 v186
  v187.toNat
def k0_off7 (d0 : Dev nD) (c1_i32_2 : BitVec 32) : Fin 2 → Nat :=
  let c1_i32_224 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v217 : BitVec 32 := Scalar.subi c1_i32_224 v7
  let c96_i32 : BitVec 32 := 96#32
  let v218 : BitVec 32 := Scalar.muli v217 c96_i32
  let v219 : Index := Scalar.indexCast v218
  let c0_225 : Index := 0#32
  ![v219.toNat, 0]
def k0_dev10 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_228 : BitVec 32 := 3#32
  let v225 : BitVec 32 := Scalar.xori v2 c3_i32_228
  let c1_i32_233 : BitVec 32 := 1#32
  let v226 : BitVec 32 := Scalar.muli v225 c1_i32_233
  let v227 : BitVec 32 := Scalar.addi c0_i32_234 v226
  v227.toNat
def k0_dev11 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_276 : BitVec 32 := 4#32
  let v265 : BitVec 32 := Scalar.xori v2 c4_i32_276
  let c1_i32_281 : BitVec 32 := 1#32
  let v266 : BitVec 32 := Scalar.muli v265 c1_i32_281
  let v267 : BitVec 32 := Scalar.addi c0_i32_282 v266
  v267.toNat
def k0_off8 (d0 : Dev nD) : Fin 2 → Nat :=
  let c1_i32_319 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v297 : BitVec 32 := Scalar.subi c1_i32_319 v5
  let c96_i32_320 : BitVec 32 := 96#32
  let v298 : BitVec 32 := Scalar.muli v297 c96_i32_320
  let v299 : Index := Scalar.indexCast v298
  let c0_321 : Index := 0#32
  ![v299.toNat, 0]
def k0_dev12 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_324 : BitVec 32 := 1#32
  let v305 : BitVec 32 := Scalar.xori v2 c1_i32_324
  let c1_i32_329 : BitVec 32 := 1#32
  let v306 : BitVec 32 := Scalar.muli v305 c1_i32_329
  let v307 : BitVec 32 := Scalar.addi c0_i32_330 v306
  v307.toNat
def k0_dev13 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_372 : BitVec 32 := 3#32
  let v345 : BitVec 32 := Scalar.xori v2 c3_i32_372
  let c1_i32_377 : BitVec 32 := 1#32
  let v346 : BitVec 32 := Scalar.muli v345 c1_i32_377
  let v347 : BitVec 32 := Scalar.addi c0_i32_378 v346
  v347.toNat
def k0_off9 (d0 : Dev nD) : Fin 2 → Nat :=
  let c1_i32_415 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let v377 : BitVec 32 := Scalar.subi c1_i32_415 v9
  let c64_i32 : BitVec 32 := 64#32
  let v378 : BitVec 32 := Scalar.muli v377 c64_i32
  let v379 : Index := Scalar.indexCast v378
  let c0_416 : Index := 0#32
  ![v379.toNat, 0]
def k0_dev14 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_419 : BitVec 32 := 4#32
  let v385 : BitVec 32 := Scalar.xori v2 c4_i32_419
  let c1_i32_424 : BitVec 32 := 1#32
  let v386 : BitVec 32 := Scalar.muli v385 c1_i32_424
  let v387 : BitVec 32 := Scalar.addi c0_i32_425 v386
  v387.toNat
def k0_off10 (d0 : Dev nD) : Fin 2 → Nat :=
  let c1_i32_462 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v417 : BitVec 32 := Scalar.subi c1_i32_462 v5
  let c64_i32_463 : BitVec 32 := 64#32
  let v418 : BitVec 32 := Scalar.muli v417 c64_i32_463
  let v419 : Index := Scalar.indexCast v418
  let c0_464 : Index := 0#32
  ![v419.toNat, 0]
def k0_dev15 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_467 : BitVec 32 := 1#32
  let v425 : BitVec 32 := Scalar.xori v2 c1_i32_467
  let c1_i32_472 : BitVec 32 := 1#32
  let v426 : BitVec 32 := Scalar.muli v425 c1_i32_472
  let v427 : BitVec 32 := Scalar.addi c0_i32_473 v426
  v427.toNat
def k0_off11 (d0 : Dev nD) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c96_i32_498 : BitVec 32 := 96#32
  let v446 : BitVec 32 := Scalar.muli v7 c96_i32_498
  let v447 : Index := Scalar.indexCast v446
  let c0_499 : Index := 0#32
  ![v447.toNat, 0]
def k0_off12 (d0 : Dev nD) (c2_i32 : BitVec 32) : Fin 2 → Nat :=
  let c1_i32_503 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.shrsi v2 c2_i32
  let c1_i32_4 : BitVec 32 := 1#32
  let v9 : BitVec 32 := Scalar.andi v8 c1_i32_4
  let v455 : BitVec 32 := Scalar.subi c1_i32_503 v9
  let c48_i32 : BitVec 32 := 48#32
  let v456 : BitVec 32 := Scalar.muli v455 c48_i32
  let v457 : Index := Scalar.indexCast v456
  let c0_504 : Index := 0#32
  ![v457.toNat, 0]
def k0_dev16 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_507 : BitVec 32 := 4#32
  let v463 : BitVec 32 := Scalar.xori v2 c4_i32_507
  let c1_i32_512 : BitVec 32 := 1#32
  let v464 : BitVec 32 := Scalar.muli v463 c1_i32_512
  let v465 : BitVec 32 := Scalar.addi c0_i32_513 v464
  v465.toNat
def k0_off13 (d0 : Dev nD) : Fin 2 → Nat :=
  let c1_i32_543 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v493 : BitVec 32 := Scalar.subi c1_i32_543 v5
  let c48_i32_544 : BitVec 32 := 48#32
  let v494 : BitVec 32 := Scalar.muli v493 c48_i32_544
  let v495 : Index := Scalar.indexCast v494
  let c0_545 : Index := 0#32
  ![v495.toNat, 0]
def k0_dev17 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_548 : BitVec 32 := 1#32
  let v501 : BitVec 32 := Scalar.xori v2 c1_i32_548
  let c1_i32_553 : BitVec 32 := 1#32
  let v502 : BitVec 32 := Scalar.muli v501 c1_i32_553
  let v503 : BitVec 32 := Scalar.addi c0_i32_554 v502
  v503.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_580 : BitVec 32 := 96#32
  let v522 : BitVec 32 := Scalar.muli v5 c96_i32_580
  let v523 : Index := Scalar.indexCast v522
  let c0_581 : Index := 0#32
  ![v523.toNat, 0]
def k0_dev18 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_590 : BitVec 32 := 3#32
  let v539 : BitVec 32 := Scalar.xori v2 c3_i32_590
  let c1_i32_595 : BitVec 32 := 1#32
  let v540 : BitVec 32 := Scalar.muli v539 c1_i32_595
  let v541 : BitVec 32 := Scalar.addi c0_i32_596 v540
  v541.toNat
def k0_dev19 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_632 : BitVec 32 := 4#32
  let v577 : BitVec 32 := Scalar.xori v2 c4_i32_632
  let c1_i32_637 : BitVec 32 := 1#32
  let v578 : BitVec 32 := Scalar.muli v577 c1_i32_637
  let v579 : BitVec 32 := Scalar.addi c0_i32_638 v578
  v579.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_663 : BitVec 32 := 64#32
  let v598 : BitVec 32 := Scalar.muli v9 c64_i32_663
  let v599 : Index := Scalar.indexCast v598
  let c0_664 : Index := 0#32
  ![v599.toNat, 0]
def k0_off16 (d0 : Dev nD) : Fin 2 → Nat :=
  let c1_i32_668 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v607 : BitVec 32 := Scalar.subi c1_i32_668 v5
  let c32_i32 : BitVec 32 := 32#32
  let v608 : BitVec 32 := Scalar.muli v607 c32_i32
  let v609 : Index := Scalar.indexCast v608
  let c0_669 : Index := 0#32
  ![v609.toNat, 0]
def k0_dev20 (d0 : Dev nD) : Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_672 : BitVec 32 := 1#32
  let v615 : BitVec 32 := Scalar.xori v2 c1_i32_672
  let c1_i32_677 : BitVec 32 := 1#32
  let v616 : BitVec 32 := Scalar.muli v615 c1_i32_677
  let v617 : BitVec 32 := Scalar.addi c0_i32_678 v616
  v617.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_704 : BitVec 32 := 64#32
  let v636 : BitVec 32 := Scalar.muli v5 c64_i32_704
  let v637 : Index := Scalar.indexCast v636
  let c0_705 : Index := 0#32
  ![v637.toNat, 0]
def k0_off18 (d0 : Dev nD) : Fin 2 → Nat :=
  let c1_i32_709 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let v645 : BitVec 32 := Scalar.subi c1_i32_709 v7
  let c32_i32_710 : BitVec 32 := 32#32
  let v646 : BitVec 32 := Scalar.muli v645 c32_i32_710
  let v647 : Index := Scalar.indexCast v646
  let c0_711 : Index := 0#32
  ![v647.toNat, 0]
def k0_dev21 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_714 : BitVec 32 := 3#32
  let v653 : BitVec 32 := Scalar.xori v2 c3_i32_714
  let c1_i32_719 : BitVec 32 := 1#32
  let v654 : BitVec 32 := Scalar.muli v653 c1_i32_719
  let v655 : BitVec 32 := Scalar.addi c0_i32_720 v654
  v655.toNat
def k0_off19 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.shrsi v2 c2_i32
  let c1_i32_4 : BitVec 32 := 1#32
  let v9 : BitVec 32 := Scalar.andi v8 c1_i32_4
  let c48_i32_745 : BitVec 32 := 48#32
  let v674 : BitVec 32 := Scalar.muli v9 c48_i32_745
  let v675 : Index := Scalar.indexCast v674
  let c0_746 : Index := 0#32
  ![v675.toNat, 0]
def k0_off20 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let v692 : Index := Scalar.indexCast v678
  let c0_750 : Index := 0#32
  ![v692.toNat, 0]
def k0_off21 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let c0_i32_753 : BitVec 32 := 0#32
  ![v678.toNat, 0]
def k0_dev22 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_756 : BitVec 32 := 4#32
  let v700 : BitVec 32 := Scalar.xori v2 c4_i32_756
  let c1_i32_761 : BitVec 32 := 1#32
  let v701 : BitVec 32 := Scalar.muli v700 c1_i32_761
  let v702 : BitVec 32 := Scalar.addi c0_i32_762 v701
  v702.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_786 : BitVec 32 := 48#32
  let v721 : BitVec 32 := Scalar.muli v5 c48_i32_786
  let v722 : Index := Scalar.indexCast v721
  let c0_787 : Index := 0#32
  ![v722.toNat, 0]
def k0_off23 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let v739 : Index := Scalar.indexCast v725
  let c0_792 : Index := 0#32
  ![v739.toNat, 0]
def k0_off24 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let c0_i32_795 : BitVec 32 := 0#32
  ![v725.toNat, 0]
def k0_dev23 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_798 : BitVec 32 := 1#32
  let v747 : BitVec 32 := Scalar.xori v2 c1_i32_798
  let c1_i32_803 : BitVec 32 := 1#32
  let v748 : BitVec 32 := Scalar.muli v747 c1_i32_803
  let v749 : BitVec 32 := Scalar.addi c0_i32_804 v748
  v749.toNat
def k0_off25 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let v786 : Index := Scalar.indexCast v772
  let c0_834 : Index := 0#32
  ![v786.toNat, 0]
def k0_off26 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let c0_i32_837 : BitVec 32 := 0#32
  ![v772.toNat, 0]
def k0_dev24 (d0 : Dev nD) : Nat :=
  let c0_i32_846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_840 : BitVec 32 := 3#32
  let v794 : BitVec 32 := Scalar.xori v2 c3_i32_840
  let c1_i32_845 : BitVec 32 := 1#32
  let v795 : BitVec 32 := Scalar.muli v794 c1_i32_845
  let v796 : BitVec 32 := Scalar.addi c0_i32_846 v795
  v796.toNat
def k0_dev25 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_882 : BitVec 32 := 4#32
  let v841 : BitVec 32 := Scalar.xori v2 c4_i32_882
  let c1_i32_887 : BitVec 32 := 1#32
  let v842 : BitVec 32 := Scalar.muli v841 c1_i32_887
  let v843 : BitVec 32 := Scalar.addi c0_i32_888 v842
  v843.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_912 : BitVec 32 := 32#32
  let v862 : BitVec 32 := Scalar.muli v5 c32_i32_912
  let v863 : Index := Scalar.indexCast v862
  let c0_913 : Index := 0#32
  ![v863.toNat, 0]
def k0_off28 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let v880 : Index := Scalar.indexCast v866
  let c0_918 : Index := 0#32
  ![v880.toNat, 0]
def k0_off29 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let c0_i32_921 : BitVec 32 := 0#32
  ![v866.toNat, 0]
def k0_dev26 (d0 : Dev nD) : Nat :=
  let c0_i32_930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_924 : BitVec 32 := 1#32
  let v888 : BitVec 32 := Scalar.xori v2 c1_i32_924
  let c1_i32_929 : BitVec 32 := 1#32
  let v889 : BitVec 32 := Scalar.muli v888 c1_i32_929
  let v890 : BitVec 32 := Scalar.addi c0_i32_930 v889
  v890.toNat
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c32_i32_954 : BitVec 32 := 32#32
  let v909 : BitVec 32 := Scalar.muli v7 c32_i32_954
  let v910 : Index := Scalar.indexCast v909
  let c0_955 : Index := 0#32
  ![v910.toNat, 0]
def k0_off31 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let v927 : Index := Scalar.indexCast v913
  let c0_960 : Index := 0#32
  ![v927.toNat, 0]
def k0_off32 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let c0_i32_963 : BitVec 32 := 0#32
  ![v913.toNat, 0]
def k0_dev27 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_966 : BitVec 32 := 3#32
  let v935 : BitVec 32 := Scalar.xori v2 c3_i32_966
  let c1_i32_971 : BitVec 32 := 1#32
  let v936 : BitVec 32 := Scalar.muli v935 c1_i32_971
  let v937 : BitVec 32 := Scalar.addi c0_i32_972 v936
  v937.toNat
def k0_off33 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let c48_i32_990 : BitVec 32 := 48#32
  let v954 : BitVec 32 := Scalar.muli v9 c48_i32_990
  let v955 : BitVec 32 := Scalar.subi v678 v954
  let c1_i32_991 : BitVec 32 := 1#32
  let v956 : BitVec 32 := Scalar.subi c1_i32_991 v9
  let c48_i32_992 : BitVec 32 := 48#32
  let v957 : BitVec 32 := Scalar.muli v956 c48_i32_992
  let v958 : BitVec 32 := Scalar.addi v955 v957
  let v959 : Index := Scalar.indexCast v958
  let c0_993 : Index := 0#32
  ![v959.toNat, 0]
def k0_off34 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let c48_i32_990 : BitVec 32 := 48#32
  let v954 : BitVec 32 := Scalar.muli v9 c48_i32_990
  let v955 : BitVec 32 := Scalar.subi v678 v954
  let c1_i32_991 : BitVec 32 := 1#32
  let v956 : BitVec 32 := Scalar.subi c1_i32_991 v9
  let c48_i32_992 : BitVec 32 := 48#32
  let v957 : BitVec 32 := Scalar.muli v956 c48_i32_992
  let v958 : BitVec 32 := Scalar.addi v955 v957
  let c0_i32_998 : BitVec 32 := 0#32
  ![v958.toNat, 0]
def k0_off35 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let c48_i32_990 : BitVec 32 := 48#32
  let v954 : BitVec 32 := Scalar.muli v9 c48_i32_990
  let v955 : BitVec 32 := Scalar.subi v678 v954
  let c0_i32_1008 : BitVec 32 := 0#32
  ![v955.toNat, 0]
def k0_dev28 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1001 : BitVec 32 := 3#32
  let v969 : BitVec 32 := Scalar.xori v2 c3_i32_1001
  let c1_i32_1006 : BitVec 32 := 1#32
  let v970 : BitVec 32 := Scalar.muli v969 c1_i32_1006
  let v971 : BitVec 32 := Scalar.addi c0_i32_1007 v970
  v971.toNat
def k0_off36 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let c48_i32_1025 : BitVec 32 := 48#32
  let v988 : BitVec 32 := Scalar.muli v5 c48_i32_1025
  let v989 : BitVec 32 := Scalar.subi v725 v988
  let c1_i32_1026 : BitVec 32 := 1#32
  let v990 : BitVec 32 := Scalar.subi c1_i32_1026 v5
  let c48_i32_1027 : BitVec 32 := 48#32
  let v991 : BitVec 32 := Scalar.muli v990 c48_i32_1027
  let v992 : BitVec 32 := Scalar.addi v989 v991
  let v993 : Index := Scalar.indexCast v992
  let c0_1028 : Index := 0#32
  ![v993.toNat, 0]
def k0_off37 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let c48_i32_1025 : BitVec 32 := 48#32
  let v988 : BitVec 32 := Scalar.muli v5 c48_i32_1025
  let v989 : BitVec 32 := Scalar.subi v725 v988
  let c1_i32_1026 : BitVec 32 := 1#32
  let v990 : BitVec 32 := Scalar.subi c1_i32_1026 v5
  let c48_i32_1027 : BitVec 32 := 48#32
  let v991 : BitVec 32 := Scalar.muli v990 c48_i32_1027
  let v992 : BitVec 32 := Scalar.addi v989 v991
  let c0_i32_1033 : BitVec 32 := 0#32
  ![v992.toNat, 0]
def k0_off38 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let c48_i32_1025 : BitVec 32 := 48#32
  let v988 : BitVec 32 := Scalar.muli v5 c48_i32_1025
  let v989 : BitVec 32 := Scalar.subi v725 v988
  let c0_i32_1043 : BitVec 32 := 0#32
  ![v989.toNat, 0]
def k0_dev29 (d0 : Dev nD) : Nat :=
  let c0_i32_1042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1036 : BitVec 32 := 4#32
  let v1003 : BitVec 32 := Scalar.xori v2 c4_i32_1036
  let c1_i32_1041 : BitVec 32 := 1#32
  let v1004 : BitVec 32 := Scalar.muli v1003 c1_i32_1041
  let v1005 : BitVec 32 := Scalar.addi c0_i32_1042 v1004
  v1005.toNat
def k0_off39 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let c48_i32_1060 : BitVec 32 := 48#32
  let v1022 : BitVec 32 := Scalar.muli v7 c48_i32_1060
  let v1023 : BitVec 32 := Scalar.subi v772 v1022
  let c1_i32_1061 : BitVec 32 := 1#32
  let v1024 : BitVec 32 := Scalar.subi c1_i32_1061 v7
  let c48_i32_1062 : BitVec 32 := 48#32
  let v1025 : BitVec 32 := Scalar.muli v1024 c48_i32_1062
  let v1026 : BitVec 32 := Scalar.addi v1023 v1025
  let v1027 : Index := Scalar.indexCast v1026
  let c0_1063 : Index := 0#32
  ![v1027.toNat, 0]
def k0_off40 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let c48_i32_1060 : BitVec 32 := 48#32
  let v1022 : BitVec 32 := Scalar.muli v7 c48_i32_1060
  let v1023 : BitVec 32 := Scalar.subi v772 v1022
  let c1_i32_1061 : BitVec 32 := 1#32
  let v1024 : BitVec 32 := Scalar.subi c1_i32_1061 v7
  let c48_i32_1062 : BitVec 32 := 48#32
  let v1025 : BitVec 32 := Scalar.muli v1024 c48_i32_1062
  let v1026 : BitVec 32 := Scalar.addi v1023 v1025
  let c0_i32_1068 : BitVec 32 := 0#32
  ![v1026.toNat, 0]
def k0_off41 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let c48_i32_1060 : BitVec 32 := 48#32
  let v1022 : BitVec 32 := Scalar.muli v7 c48_i32_1060
  let v1023 : BitVec 32 := Scalar.subi v772 v1022
  let c0_i32_1078 : BitVec 32 := 0#32
  ![v1023.toNat, 0]
def k0_dev30 (d0 : Dev nD) : Nat :=
  let c0_i32_1077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1071 : BitVec 32 := 1#32
  let v1037 : BitVec 32 := Scalar.xori v2 c1_i32_1071
  let c1_i32_1076 : BitVec 32 := 1#32
  let v1038 : BitVec 32 := Scalar.muli v1037 c1_i32_1076
  let v1039 : BitVec 32 := Scalar.addi c0_i32_1077 v1038
  v1039.toNat
def k0_dev31 (d0 : Dev nD) : Nat :=
  let c0_i32_1112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1106 : BitVec 32 := 3#32
  let v1071 : BitVec 32 := Scalar.xori v2 c3_i32_1106
  let c1_i32_1111 : BitVec 32 := 1#32
  let v1072 : BitVec 32 := Scalar.muli v1071 c1_i32_1111
  let v1073 : BitVec 32 := Scalar.addi c0_i32_1112 v1072
  v1073.toNat
def k0_off42 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let c32_i32_1130 : BitVec 32 := 32#32
  let v1090 : BitVec 32 := Scalar.muli v5 c32_i32_1130
  let v1091 : BitVec 32 := Scalar.subi v866 v1090
  let c1_i32_1131 : BitVec 32 := 1#32
  let v1092 : BitVec 32 := Scalar.subi c1_i32_1131 v5
  let c32_i32_1132 : BitVec 32 := 32#32
  let v1093 : BitVec 32 := Scalar.muli v1092 c32_i32_1132
  let v1094 : BitVec 32 := Scalar.addi v1091 v1093
  let v1095 : Index := Scalar.indexCast v1094
  let c0_1133 : Index := 0#32
  ![v1095.toNat, 0]
def k0_off43 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let c32_i32_1130 : BitVec 32 := 32#32
  let v1090 : BitVec 32 := Scalar.muli v5 c32_i32_1130
  let v1091 : BitVec 32 := Scalar.subi v866 v1090
  let c1_i32_1131 : BitVec 32 := 1#32
  let v1092 : BitVec 32 := Scalar.subi c1_i32_1131 v5
  let c32_i32_1132 : BitVec 32 := 32#32
  let v1093 : BitVec 32 := Scalar.muli v1092 c32_i32_1132
  let v1094 : BitVec 32 := Scalar.addi v1091 v1093
  let c0_i32_1138 : BitVec 32 := 0#32
  ![v1094.toNat, 0]
def k0_off44 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let c32_i32_1130 : BitVec 32 := 32#32
  let v1090 : BitVec 32 := Scalar.muli v5 c32_i32_1130
  let v1091 : BitVec 32 := Scalar.subi v866 v1090
  let c0_i32_1148 : BitVec 32 := 0#32
  ![v1091.toNat, 0]
def k0_dev32 (d0 : Dev nD) : Nat :=
  let c0_i32_1147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1141 : BitVec 32 := 4#32
  let v1105 : BitVec 32 := Scalar.xori v2 c4_i32_1141
  let c1_i32_1146 : BitVec 32 := 1#32
  let v1106 : BitVec 32 := Scalar.muli v1105 c1_i32_1146
  let v1107 : BitVec 32 := Scalar.addi c0_i32_1147 v1106
  v1107.toNat
def k0_off45 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let c32_i32_1165 : BitVec 32 := 32#32
  let v1124 : BitVec 32 := Scalar.muli v7 c32_i32_1165
  let v1125 : BitVec 32 := Scalar.subi v913 v1124
  let c1_i32_1166 : BitVec 32 := 1#32
  let v1126 : BitVec 32 := Scalar.subi c1_i32_1166 v7
  let c32_i32_1167 : BitVec 32 := 32#32
  let v1127 : BitVec 32 := Scalar.muli v1126 c32_i32_1167
  let v1128 : BitVec 32 := Scalar.addi v1125 v1127
  let v1129 : Index := Scalar.indexCast v1128
  let c0_1168 : Index := 0#32
  ![v1129.toNat, 0]
def k0_off46 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let c32_i32_1165 : BitVec 32 := 32#32
  let v1124 : BitVec 32 := Scalar.muli v7 c32_i32_1165
  let v1125 : BitVec 32 := Scalar.subi v913 v1124
  let c1_i32_1166 : BitVec 32 := 1#32
  let v1126 : BitVec 32 := Scalar.subi c1_i32_1166 v7
  let c32_i32_1167 : BitVec 32 := 32#32
  let v1127 : BitVec 32 := Scalar.muli v1126 c32_i32_1167
  let v1128 : BitVec 32 := Scalar.addi v1125 v1127
  let c0_i32_1173 : BitVec 32 := 0#32
  ![v1128.toNat, 0]
def k0_off47 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let c32_i32_1165 : BitVec 32 := 32#32
  let v1124 : BitVec 32 := Scalar.muli v7 c32_i32_1165
  let v1125 : BitVec 32 := Scalar.subi v913 v1124
  let c0_i32_1183 : BitVec 32 := 0#32
  ![v1125.toNat, 0]
def k0_dev33 (d0 : Dev nD) : Nat :=
  let c0_i32_1182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1176 : BitVec 32 := 1#32
  let v1139 : BitVec 32 := Scalar.xori v2 c1_i32_1176
  let c1_i32_1181 : BitVec 32 := 1#32
  let v1140 : BitVec 32 := Scalar.muli v1139 c1_i32_1181
  let v1141 : BitVec 32 := Scalar.addi c0_i32_1182 v1140
  v1141.toNat
def k0_off48 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let c48_i32_990 : BitVec 32 := 48#32
  let v954 : BitVec 32 := Scalar.muli v9 c48_i32_990
  let v955 : BitVec 32 := Scalar.subi v678 v954
  let c96_i32_1200 : BitVec 32 := 96#32
  let v1158 : BitVec 32 := Scalar.muli v7 c96_i32_1200
  let v1159 : BitVec 32 := Scalar.subi v955 v1158
  let c1_i32_1201 : BitVec 32 := 1#32
  let v1160 : BitVec 32 := Scalar.subi c1_i32_1201 v7
  let c96_i32_1202 : BitVec 32 := 96#32
  let v1161 : BitVec 32 := Scalar.muli v1160 c96_i32_1202
  let v1162 : BitVec 32 := Scalar.addi v1159 v1161
  let v1163 : Index := Scalar.indexCast v1162
  let c0_1203 : Index := 0#32
  ![v1163.toNat, 0]
def k0_off49 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let c48_i32_990 : BitVec 32 := 48#32
  let v954 : BitVec 32 := Scalar.muli v9 c48_i32_990
  let v955 : BitVec 32 := Scalar.subi v678 v954
  let c96_i32_1200 : BitVec 32 := 96#32
  let v1158 : BitVec 32 := Scalar.muli v7 c96_i32_1200
  let v1159 : BitVec 32 := Scalar.subi v955 v1158
  let c1_i32_1201 : BitVec 32 := 1#32
  let v1160 : BitVec 32 := Scalar.subi c1_i32_1201 v7
  let c96_i32_1202 : BitVec 32 := 96#32
  let v1161 : BitVec 32 := Scalar.muli v1160 c96_i32_1202
  let v1162 : BitVec 32 := Scalar.addi v1159 v1161
  let c0_i32_1207 : BitVec 32 := 0#32
  ![v1162.toNat, 0]
def k0_off50 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let c48_i32_990 : BitVec 32 := 48#32
  let v954 : BitVec 32 := Scalar.muli v9 c48_i32_990
  let v955 : BitVec 32 := Scalar.subi v678 v954
  let c96_i32_1200 : BitVec 32 := 96#32
  let v1158 : BitVec 32 := Scalar.muli v7 c96_i32_1200
  let v1159 : BitVec 32 := Scalar.subi v955 v1158
  let c0_i32_1217 : BitVec 32 := 0#32
  ![v1159.toNat, 0]
def k0_dev34 (d0 : Dev nD) : Nat :=
  let c0_i32_1216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1210 : BitVec 32 := 1#32
  let v1173 : BitVec 32 := Scalar.xori v2 c1_i32_1210
  let c1_i32_1215 : BitVec 32 := 1#32
  let v1174 : BitVec 32 := Scalar.muli v1173 c1_i32_1215
  let v1175 : BitVec 32 := Scalar.addi c0_i32_1216 v1174
  v1175.toNat
def k0_off51 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let c48_i32_1025 : BitVec 32 := 48#32
  let v988 : BitVec 32 := Scalar.muli v5 c48_i32_1025
  let v989 : BitVec 32 := Scalar.subi v725 v988
  let c96_i32_1234 : BitVec 32 := 96#32
  let v1192 : BitVec 32 := Scalar.muli v9 c96_i32_1234
  let v1193 : BitVec 32 := Scalar.subi v989 v1192
  let c1_i32_1235 : BitVec 32 := 1#32
  let v1194 : BitVec 32 := Scalar.subi c1_i32_1235 v9
  let c96_i32_1236 : BitVec 32 := 96#32
  let v1195 : BitVec 32 := Scalar.muli v1194 c96_i32_1236
  let v1196 : BitVec 32 := Scalar.addi v1193 v1195
  let v1197 : Index := Scalar.indexCast v1196
  let c0_1237 : Index := 0#32
  ![v1197.toNat, 0]
def k0_off52 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let c48_i32_1025 : BitVec 32 := 48#32
  let v988 : BitVec 32 := Scalar.muli v5 c48_i32_1025
  let v989 : BitVec 32 := Scalar.subi v725 v988
  let c96_i32_1234 : BitVec 32 := 96#32
  let v1192 : BitVec 32 := Scalar.muli v9 c96_i32_1234
  let v1193 : BitVec 32 := Scalar.subi v989 v1192
  let c1_i32_1235 : BitVec 32 := 1#32
  let v1194 : BitVec 32 := Scalar.subi c1_i32_1235 v9
  let c96_i32_1236 : BitVec 32 := 96#32
  let v1195 : BitVec 32 := Scalar.muli v1194 c96_i32_1236
  let v1196 : BitVec 32 := Scalar.addi v1193 v1195
  let c0_i32_1242 : BitVec 32 := 0#32
  ![v1196.toNat, 0]
def k0_off53 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let c48_i32_1025 : BitVec 32 := 48#32
  let v988 : BitVec 32 := Scalar.muli v5 c48_i32_1025
  let v989 : BitVec 32 := Scalar.subi v725 v988
  let c96_i32_1234 : BitVec 32 := 96#32
  let v1192 : BitVec 32 := Scalar.muli v9 c96_i32_1234
  let v1193 : BitVec 32 := Scalar.subi v989 v1192
  let c0_i32_1252 : BitVec 32 := 0#32
  ![v1193.toNat, 0]
def k0_dev35 (d0 : Dev nD) : Nat :=
  let c0_i32_1251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1245 : BitVec 32 := 3#32
  let v1207 : BitVec 32 := Scalar.xori v2 c3_i32_1245
  let c1_i32_1250 : BitVec 32 := 1#32
  let v1208 : BitVec 32 := Scalar.muli v1207 c1_i32_1250
  let v1209 : BitVec 32 := Scalar.addi c0_i32_1251 v1208
  v1209.toNat
def k0_off54 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let c48_i32_1060 : BitVec 32 := 48#32
  let v1022 : BitVec 32 := Scalar.muli v7 c48_i32_1060
  let v1023 : BitVec 32 := Scalar.subi v772 v1022
  let c96_i32_1269 : BitVec 32 := 96#32
  let v1226 : BitVec 32 := Scalar.muli v5 c96_i32_1269
  let v1227 : BitVec 32 := Scalar.subi v1023 v1226
  let c1_i32_1270 : BitVec 32 := 1#32
  let v1228 : BitVec 32 := Scalar.subi c1_i32_1270 v5
  let c96_i32_1271 : BitVec 32 := 96#32
  let v1229 : BitVec 32 := Scalar.muli v1228 c96_i32_1271
  let v1230 : BitVec 32 := Scalar.addi v1227 v1229
  let v1231 : Index := Scalar.indexCast v1230
  let c0_1272 : Index := 0#32
  ![v1231.toNat, 0]
def k0_off55 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let c48_i32_1060 : BitVec 32 := 48#32
  let v1022 : BitVec 32 := Scalar.muli v7 c48_i32_1060
  let v1023 : BitVec 32 := Scalar.subi v772 v1022
  let c96_i32_1269 : BitVec 32 := 96#32
  let v1226 : BitVec 32 := Scalar.muli v5 c96_i32_1269
  let v1227 : BitVec 32 := Scalar.subi v1023 v1226
  let c1_i32_1270 : BitVec 32 := 1#32
  let v1228 : BitVec 32 := Scalar.subi c1_i32_1270 v5
  let c96_i32_1271 : BitVec 32 := 96#32
  let v1229 : BitVec 32 := Scalar.muli v1228 c96_i32_1271
  let v1230 : BitVec 32 := Scalar.addi v1227 v1229
  let c0_i32_1277 : BitVec 32 := 0#32
  ![v1230.toNat, 0]
def k0_off56 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let c48_i32_1060 : BitVec 32 := 48#32
  let v1022 : BitVec 32 := Scalar.muli v7 c48_i32_1060
  let v1023 : BitVec 32 := Scalar.subi v772 v1022
  let c96_i32_1269 : BitVec 32 := 96#32
  let v1226 : BitVec 32 := Scalar.muli v5 c96_i32_1269
  let v1227 : BitVec 32 := Scalar.subi v1023 v1226
  let c0_i32_1287 : BitVec 32 := 0#32
  ![v1227.toNat, 0]
def k0_dev36 (d0 : Dev nD) : Nat :=
  let c0_i32_1286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1280 : BitVec 32 := 4#32
  let v1241 : BitVec 32 := Scalar.xori v2 c4_i32_1280
  let c1_i32_1285 : BitVec 32 := 1#32
  let v1242 : BitVec 32 := Scalar.muli v1241 c1_i32_1285
  let v1243 : BitVec 32 := Scalar.addi c0_i32_1286 v1242
  v1243.toNat
def k0_dev37 (d0 : Dev nD) : Nat :=
  let c0_i32_1321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1315 : BitVec 32 := 1#32
  let v1275 : BitVec 32 := Scalar.xori v2 c1_i32_1315
  let c1_i32_1320 : BitVec 32 := 1#32
  let v1276 : BitVec 32 := Scalar.muli v1275 c1_i32_1320
  let v1277 : BitVec 32 := Scalar.addi c0_i32_1321 v1276
  v1277.toNat
def k0_off57 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let c32_i32_1130 : BitVec 32 := 32#32
  let v1090 : BitVec 32 := Scalar.muli v5 c32_i32_1130
  let v1091 : BitVec 32 := Scalar.subi v866 v1090
  let c64_i32_1339 : BitVec 32 := 64#32
  let v1294 : BitVec 32 := Scalar.muli v9 c64_i32_1339
  let v1295 : BitVec 32 := Scalar.subi v1091 v1294
  let c1_i32_1340 : BitVec 32 := 1#32
  let v1296 : BitVec 32 := Scalar.subi c1_i32_1340 v9
  let c64_i32_1341 : BitVec 32 := 64#32
  let v1297 : BitVec 32 := Scalar.muli v1296 c64_i32_1341
  let v1298 : BitVec 32 := Scalar.addi v1295 v1297
  let v1299 : Index := Scalar.indexCast v1298
  let c0_1342 : Index := 0#32
  ![v1299.toNat, 0]
def k0_off58 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let c32_i32_1130 : BitVec 32 := 32#32
  let v1090 : BitVec 32 := Scalar.muli v5 c32_i32_1130
  let v1091 : BitVec 32 := Scalar.subi v866 v1090
  let c64_i32_1339 : BitVec 32 := 64#32
  let v1294 : BitVec 32 := Scalar.muli v9 c64_i32_1339
  let v1295 : BitVec 32 := Scalar.subi v1091 v1294
  let c1_i32_1340 : BitVec 32 := 1#32
  let v1296 : BitVec 32 := Scalar.subi c1_i32_1340 v9
  let c64_i32_1341 : BitVec 32 := 64#32
  let v1297 : BitVec 32 := Scalar.muli v1296 c64_i32_1341
  let v1298 : BitVec 32 := Scalar.addi v1295 v1297
  let c0_i32_1346 : BitVec 32 := 0#32
  ![v1298.toNat, 0]
def k0_off59 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let c32_i32_1130 : BitVec 32 := 32#32
  let v1090 : BitVec 32 := Scalar.muli v5 c32_i32_1130
  let v1091 : BitVec 32 := Scalar.subi v866 v1090
  let c64_i32_1339 : BitVec 32 := 64#32
  let v1294 : BitVec 32 := Scalar.muli v9 c64_i32_1339
  let v1295 : BitVec 32 := Scalar.subi v1091 v1294
  let c0_i32_1356 : BitVec 32 := 0#32
  ![v1295.toNat, 0]
def k0_dev38 (d0 : Dev nD) : Nat :=
  let c0_i32_1355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1349 : BitVec 32 := 3#32
  let v1309 : BitVec 32 := Scalar.xori v2 c3_i32_1349
  let c1_i32_1354 : BitVec 32 := 1#32
  let v1310 : BitVec 32 := Scalar.muli v1309 c1_i32_1354
  let v1311 : BitVec 32 := Scalar.addi c0_i32_1355 v1310
  v1311.toNat
def k0_off60 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let c32_i32_1165 : BitVec 32 := 32#32
  let v1124 : BitVec 32 := Scalar.muli v7 c32_i32_1165
  let v1125 : BitVec 32 := Scalar.subi v913 v1124
  let c64_i32_1373 : BitVec 32 := 64#32
  let v1328 : BitVec 32 := Scalar.muli v5 c64_i32_1373
  let v1329 : BitVec 32 := Scalar.subi v1125 v1328
  let c1_i32_1374 : BitVec 32 := 1#32
  let v1330 : BitVec 32 := Scalar.subi c1_i32_1374 v5
  let c64_i32_1375 : BitVec 32 := 64#32
  let v1331 : BitVec 32 := Scalar.muli v1330 c64_i32_1375
  let v1332 : BitVec 32 := Scalar.addi v1329 v1331
  let v1333 : Index := Scalar.indexCast v1332
  let c0_1376 : Index := 0#32
  ![v1333.toNat, 0]
def k0_off61 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let c32_i32_1165 : BitVec 32 := 32#32
  let v1124 : BitVec 32 := Scalar.muli v7 c32_i32_1165
  let v1125 : BitVec 32 := Scalar.subi v913 v1124
  let c64_i32_1373 : BitVec 32 := 64#32
  let v1328 : BitVec 32 := Scalar.muli v5 c64_i32_1373
  let v1329 : BitVec 32 := Scalar.subi v1125 v1328
  let c1_i32_1374 : BitVec 32 := 1#32
  let v1330 : BitVec 32 := Scalar.subi c1_i32_1374 v5
  let c64_i32_1375 : BitVec 32 := 64#32
  let v1331 : BitVec 32 := Scalar.muli v1330 c64_i32_1375
  let v1332 : BitVec 32 := Scalar.addi v1329 v1331
  let c0_i32_1381 : BitVec 32 := 0#32
  ![v1332.toNat, 0]
def k0_off62 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let c32_i32_1165 : BitVec 32 := 32#32
  let v1124 : BitVec 32 := Scalar.muli v7 c32_i32_1165
  let v1125 : BitVec 32 := Scalar.subi v913 v1124
  let c64_i32_1373 : BitVec 32 := 64#32
  let v1328 : BitVec 32 := Scalar.muli v5 c64_i32_1373
  let v1329 : BitVec 32 := Scalar.subi v1125 v1328
  let c0_i32_1391 : BitVec 32 := 0#32
  ![v1329.toNat, 0]
def k0_dev39 (d0 : Dev nD) : Nat :=
  let c0_i32_1390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1384 : BitVec 32 := 4#32
  let v1343 : BitVec 32 := Scalar.xori v2 c4_i32_1384
  let c1_i32_1389 : BitVec 32 := 1#32
  let v1344 : BitVec 32 := Scalar.muli v1343 c1_i32_1389
  let v1345 : BitVec 32 := Scalar.addi c0_i32_1390 v1344
  v1345.toNat
def k0_off63 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let c48_i32_990 : BitVec 32 := 48#32
  let v954 : BitVec 32 := Scalar.muli v9 c48_i32_990
  let v955 : BitVec 32 := Scalar.subi v678 v954
  let c96_i32_1200 : BitVec 32 := 96#32
  let v1158 : BitVec 32 := Scalar.muli v7 c96_i32_1200
  let v1159 : BitVec 32 := Scalar.subi v955 v1158
  let c192_i32_1408 : BitVec 32 := 192#32
  let v1362 : BitVec 32 := Scalar.muli v5 c192_i32_1408
  let v1363 : BitVec 32 := Scalar.subi v1159 v1362
  let c1_i32_1409 : BitVec 32 := 1#32
  let v1364 : BitVec 32 := Scalar.subi c1_i32_1409 v5
  let c192_i32_1410 : BitVec 32 := 192#32
  let v1365 : BitVec 32 := Scalar.muli v1364 c192_i32_1410
  let v1366 : BitVec 32 := Scalar.addi v1363 v1365
  let v1367 : Index := Scalar.indexCast v1366
  let c0_1411 : Index := 0#32
  ![v1367.toNat, 0]
def k0_off64 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c192_i32_218 : BitVec 32 := 192#32
  let v210 : BitVec 32 := Scalar.muli v5 c192_i32_218
  let v211 : BitVec 32 := Scalar.addi c0_i32_219 v210
  let c1_i32_2 : BitVec 32 := 1#32
  let v6 : BitVec 32 := Scalar.shrsi v2 c1_i32_2
  let c1_i32_3 : BitVec 32 := 1#32
  let v7 : BitVec 32 := Scalar.andi v6 c1_i32_3
  let c96_i32_500 : BitVec 32 := 96#32
  let v449 : BitVec 32 := Scalar.muli v7 c96_i32_500
  let v450 : BitVec 32 := Scalar.addi v211 v449
  let c2_i32 : BitVec 32 := 2#32
  let v8 : BitVec 32 := Scalar.shrsi v2 c2_i32
  let c1_i32_4 : BitVec 32 := 1#32
  let v9 : BitVec 32 := Scalar.andi v8 c1_i32_4
  let c48_i32_747 : BitVec 32 := 48#32
  let v677 : BitVec 32 := Scalar.muli v9 c48_i32_747
  let v678 : BitVec 32 := Scalar.addi v450 v677
  let c48_i32_990 : BitVec 32 := 48#32
  let v954 : BitVec 32 := Scalar.muli v9 c48_i32_990
  let v955 : BitVec 32 := Scalar.subi v678 v954
  let c96_i32_1200 : BitVec 32 := 96#32
  let v1158 : BitVec 32 := Scalar.muli v7 c96_i32_1200
  let v1159 : BitVec 32 := Scalar.subi v955 v1158
  let c192_i32_1408 : BitVec 32 := 192#32
  let v1362 : BitVec 32 := Scalar.muli v5 c192_i32_1408
  let v1363 : BitVec 32 := Scalar.subi v1159 v1362
  let c1_i32_1409 : BitVec 32 := 1#32
  let v1364 : BitVec 32 := Scalar.subi c1_i32_1409 v5
  let c192_i32_1410 : BitVec 32 := 192#32
  let v1365 : BitVec 32 := Scalar.muli v1364 c192_i32_1410
  let v1366 : BitVec 32 := Scalar.addi v1363 v1365
  let c0_i32_1415 : BitVec 32 := 0#32
  ![v1366.toNat, 0]
def k0_off65 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let c48_i32_1025 : BitVec 32 := 48#32
  let v988 : BitVec 32 := Scalar.muli v5 c48_i32_1025
  let v989 : BitVec 32 := Scalar.subi v725 v988
  let c96_i32_1234 : BitVec 32 := 96#32
  let v1192 : BitVec 32 := Scalar.muli v9 c96_i32_1234
  let v1193 : BitVec 32 := Scalar.subi v989 v1192
  let c192_i32_1432 : BitVec 32 := 192#32
  let v1387 : BitVec 32 := Scalar.muli v7 c192_i32_1432
  let v1388 : BitVec 32 := Scalar.subi v1193 v1387
  let c1_i32_1433 : BitVec 32 := 1#32
  let v1389 : BitVec 32 := Scalar.subi c1_i32_1433 v7
  let c192_i32_1434 : BitVec 32 := 192#32
  let v1390 : BitVec 32 := Scalar.muli v1389 c192_i32_1434
  let v1391 : BitVec 32 := Scalar.addi v1388 v1390
  let v1392 : Index := Scalar.indexCast v1391
  let c0_1435 : Index := 0#32
  ![v1392.toNat, 0]
def k0_off66 (d0 : Dev nD) : Fin 2 → Nat :=
  let c768_i32_266 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c192_i32_265 : BitVec 32 := 192#32
  let v250 : BitVec 32 := Scalar.muli v7 c192_i32_265
  let v251 : BitVec 32 := Scalar.addi c768_i32_266 v250
  let c2_i32 : BitVec 32 := 2#32
  let v8 : BitVec 32 := Scalar.shrsi v2 c2_i32
  let c1_i32_4 : BitVec 32 := 1#32
  let v9 : BitVec 32 := Scalar.andi v8 c1_i32_4
  let c96_i32_540 : BitVec 32 := 96#32
  let v487 : BitVec 32 := Scalar.muli v9 c96_i32_540
  let v488 : BitVec 32 := Scalar.addi v251 v487
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c48_i32_788 : BitVec 32 := 48#32
  let v724 : BitVec 32 := Scalar.muli v5 c48_i32_788
  let v725 : BitVec 32 := Scalar.addi v488 v724
  let c48_i32_1025 : BitVec 32 := 48#32
  let v988 : BitVec 32 := Scalar.muli v5 c48_i32_1025
  let v989 : BitVec 32 := Scalar.subi v725 v988
  let c96_i32_1234 : BitVec 32 := 96#32
  let v1192 : BitVec 32 := Scalar.muli v9 c96_i32_1234
  let v1193 : BitVec 32 := Scalar.subi v989 v1192
  let c192_i32_1432 : BitVec 32 := 192#32
  let v1387 : BitVec 32 := Scalar.muli v7 c192_i32_1432
  let v1388 : BitVec 32 := Scalar.subi v1193 v1387
  let c1_i32_1433 : BitVec 32 := 1#32
  let v1389 : BitVec 32 := Scalar.subi c1_i32_1433 v7
  let c192_i32_1434 : BitVec 32 := 192#32
  let v1390 : BitVec 32 := Scalar.muli v1389 c192_i32_1434
  let v1391 : BitVec 32 := Scalar.addi v1388 v1390
  let c0_i32_1440 : BitVec 32 := 0#32
  ![v1391.toNat, 0]
def k0_off67 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let c48_i32_1060 : BitVec 32 := 48#32
  let v1022 : BitVec 32 := Scalar.muli v7 c48_i32_1060
  let v1023 : BitVec 32 := Scalar.subi v772 v1022
  let c96_i32_1269 : BitVec 32 := 96#32
  let v1226 : BitVec 32 := Scalar.muli v5 c96_i32_1269
  let v1227 : BitVec 32 := Scalar.subi v1023 v1226
  let c192_i32_1458 : BitVec 32 := 192#32
  let v1412 : BitVec 32 := Scalar.muli v9 c192_i32_1458
  let v1413 : BitVec 32 := Scalar.subi v1227 v1412
  let c1_i32_1459 : BitVec 32 := 1#32
  let v1414 : BitVec 32 := Scalar.subi c1_i32_1459 v9
  let c192_i32_1460 : BitVec 32 := 192#32
  let v1415 : BitVec 32 := Scalar.muli v1414 c192_i32_1460
  let v1416 : BitVec 32 := Scalar.addi v1413 v1415
  let v1417 : Index := Scalar.indexCast v1416
  let c0_1461 : Index := 0#32
  ![v1417.toNat, 0]
def k0_off68 (d0 : Dev nD) : Fin 2 → Nat :=
  let c1408_i32_314 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c192_i32_313 : BitVec 32 := 192#32
  let v290 : BitVec 32 := Scalar.muli v9 c192_i32_313
  let v291 : BitVec 32 := Scalar.addi c1408_i32_314 v290
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c96_i32_582 : BitVec 32 := 96#32
  let v525 : BitVec 32 := Scalar.muli v5 c96_i32_582
  let v526 : BitVec 32 := Scalar.addi v291 v525
  let c1_i32_2 : BitVec 32 := 1#32
  let v6 : BitVec 32 := Scalar.shrsi v2 c1_i32_2
  let c1_i32_3 : BitVec 32 := 1#32
  let v7 : BitVec 32 := Scalar.andi v6 c1_i32_3
  let c48_i32_830 : BitVec 32 := 48#32
  let v771 : BitVec 32 := Scalar.muli v7 c48_i32_830
  let v772 : BitVec 32 := Scalar.addi v526 v771
  let c48_i32_1060 : BitVec 32 := 48#32
  let v1022 : BitVec 32 := Scalar.muli v7 c48_i32_1060
  let v1023 : BitVec 32 := Scalar.subi v772 v1022
  let c96_i32_1269 : BitVec 32 := 96#32
  let v1226 : BitVec 32 := Scalar.muli v5 c96_i32_1269
  let v1227 : BitVec 32 := Scalar.subi v1023 v1226
  let c192_i32_1458 : BitVec 32 := 192#32
  let v1412 : BitVec 32 := Scalar.muli v9 c192_i32_1458
  let v1413 : BitVec 32 := Scalar.subi v1227 v1412
  let c1_i32_1459 : BitVec 32 := 1#32
  let v1414 : BitVec 32 := Scalar.subi c1_i32_1459 v9
  let c192_i32_1460 : BitVec 32 := 192#32
  let v1415 : BitVec 32 := Scalar.muli v1414 c192_i32_1460
  let v1416 : BitVec 32 := Scalar.addi v1413 v1415
  let c0_i32_1466 : BitVec 32 := 0#32
  ![v1416.toNat, 0]
def k0_off69 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let c32_i32_1130 : BitVec 32 := 32#32
  let v1090 : BitVec 32 := Scalar.muli v5 c32_i32_1130
  let v1091 : BitVec 32 := Scalar.subi v866 v1090
  let c64_i32_1339 : BitVec 32 := 64#32
  let v1294 : BitVec 32 := Scalar.muli v9 c64_i32_1339
  let v1295 : BitVec 32 := Scalar.subi v1091 v1294
  let c128_i32_1510 : BitVec 32 := 128#32
  let v1462 : BitVec 32 := Scalar.muli v7 c128_i32_1510
  let v1463 : BitVec 32 := Scalar.subi v1295 v1462
  let c1_i32_1511 : BitVec 32 := 1#32
  let v1464 : BitVec 32 := Scalar.subi c1_i32_1511 v7
  let c128_i32_1512 : BitVec 32 := 128#32
  let v1465 : BitVec 32 := Scalar.muli v1464 c128_i32_1512
  let v1466 : BitVec 32 := Scalar.addi v1463 v1465
  let v1467 : Index := Scalar.indexCast v1466
  let c0_1513 : Index := 0#32
  ![v1467.toNat, 0]
def k0_off70 (d0 : Dev nD) : Fin 2 → Nat :=
  let c1152_i32_410 : BitVec 32 := 1152#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c128_i32_409 : BitVec 32 := 128#32
  let v370 : BitVec 32 := Scalar.muli v7 c128_i32_409
  let v371 : BitVec 32 := Scalar.addi c1152_i32_410 v370
  let c2_i32 : BitVec 32 := 2#32
  let v8 : BitVec 32 := Scalar.shrsi v2 c2_i32
  let c1_i32_4 : BitVec 32 := 1#32
  let v9 : BitVec 32 := Scalar.andi v8 c1_i32_4
  let c64_i32_665 : BitVec 32 := 64#32
  let v601 : BitVec 32 := Scalar.muli v9 c64_i32_665
  let v602 : BitVec 32 := Scalar.addi v371 v601
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_914 : BitVec 32 := 32#32
  let v865 : BitVec 32 := Scalar.muli v5 c32_i32_914
  let v866 : BitVec 32 := Scalar.addi v602 v865
  let c32_i32_1130 : BitVec 32 := 32#32
  let v1090 : BitVec 32 := Scalar.muli v5 c32_i32_1130
  let v1091 : BitVec 32 := Scalar.subi v866 v1090
  let c64_i32_1339 : BitVec 32 := 64#32
  let v1294 : BitVec 32 := Scalar.muli v9 c64_i32_1339
  let v1295 : BitVec 32 := Scalar.subi v1091 v1294
  let c128_i32_1510 : BitVec 32 := 128#32
  let v1462 : BitVec 32 := Scalar.muli v7 c128_i32_1510
  let v1463 : BitVec 32 := Scalar.subi v1295 v1462
  let c1_i32_1511 : BitVec 32 := 1#32
  let v1464 : BitVec 32 := Scalar.subi c1_i32_1511 v7
  let c128_i32_1512 : BitVec 32 := 128#32
  let v1465 : BitVec 32 := Scalar.muli v1464 c128_i32_1512
  let v1466 : BitVec 32 := Scalar.addi v1463 v1465
  let c0_i32_1517 : BitVec 32 := 0#32
  ![v1466.toNat, 0]
def k0_off71 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let c32_i32_1165 : BitVec 32 := 32#32
  let v1124 : BitVec 32 := Scalar.muli v7 c32_i32_1165
  let v1125 : BitVec 32 := Scalar.subi v913 v1124
  let c64_i32_1373 : BitVec 32 := 64#32
  let v1328 : BitVec 32 := Scalar.muli v5 c64_i32_1373
  let v1329 : BitVec 32 := Scalar.subi v1125 v1328
  let c128_i32_1535 : BitVec 32 := 128#32
  let v1487 : BitVec 32 := Scalar.muli v9 c128_i32_1535
  let v1488 : BitVec 32 := Scalar.subi v1329 v1487
  let c1_i32_1536 : BitVec 32 := 1#32
  let v1489 : BitVec 32 := Scalar.subi c1_i32_1536 v9
  let c128_i32_1537 : BitVec 32 := 128#32
  let v1490 : BitVec 32 := Scalar.muli v1489 c128_i32_1537
  let v1491 : BitVec 32 := Scalar.addi v1488 v1490
  let v1492 : Index := Scalar.indexCast v1491
  let c0_1538 : Index := 0#32
  ![v1492.toNat, 0]
def k0_off72 (d0 : Dev nD) : Fin 2 → Nat :=
  let c1792_i32_457 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c128_i32_456 : BitVec 32 := 128#32
  let v410 : BitVec 32 := Scalar.muli v9 c128_i32_456
  let v411 : BitVec 32 := Scalar.addi c1792_i32_457 v410
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_706 : BitVec 32 := 64#32
  let v639 : BitVec 32 := Scalar.muli v5 c64_i32_706
  let v640 : BitVec 32 := Scalar.addi v411 v639
  let c1_i32_2 : BitVec 32 := 1#32
  let v6 : BitVec 32 := Scalar.shrsi v2 c1_i32_2
  let c1_i32_3 : BitVec 32 := 1#32
  let v7 : BitVec 32 := Scalar.andi v6 c1_i32_3
  let c32_i32_956 : BitVec 32 := 32#32
  let v912 : BitVec 32 := Scalar.muli v7 c32_i32_956
  let v913 : BitVec 32 := Scalar.addi v640 v912
  let c32_i32_1165 : BitVec 32 := 32#32
  let v1124 : BitVec 32 := Scalar.muli v7 c32_i32_1165
  let v1125 : BitVec 32 := Scalar.subi v913 v1124
  let c64_i32_1373 : BitVec 32 := 64#32
  let v1328 : BitVec 32 := Scalar.muli v5 c64_i32_1373
  let v1329 : BitVec 32 := Scalar.subi v1125 v1328
  let c128_i32_1535 : BitVec 32 := 128#32
  let v1487 : BitVec 32 := Scalar.muli v9 c128_i32_1535
  let v1488 : BitVec 32 := Scalar.subi v1329 v1487
  let c1_i32_1536 : BitVec 32 := 1#32
  let v1489 : BitVec 32 := Scalar.subi c1_i32_1536 v9
  let c128_i32_1537 : BitVec 32 := 128#32
  let v1490 : BitVec 32 := Scalar.muli v1489 c128_i32_1537
  let v1491 : BitVec 32 := Scalar.addi v1488 v1490
  let c0_i32_1543 : BitVec 32 := 0#32
  ![v1491.toNat, 0]
-- ==== ReferenceIdeal.lean ====
abbrev S16384x1024 : Shape := ⟨2, ![16384, 1024]⟩
abbrev S8x2048x1024 : Shape := ⟨3, ![8, 2048, 1024]⟩
abbrev S_ : Shape := ⟨0, ![]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x1024, .f32⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Blocks.lean ====
/-
The kernel as a program over its six parts.

The 2048 rows of the array are cut into six parts. Each part is reduced and gathered over the same
three axes of the mesh, in its own order, by the same code at its own offsets; so the kernel's body
is stated here once per step of that code, over a record of the part's numbers and buffers
(`Part`), and shown equal to the printed body by unfolding (`body_eq`).
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions
public import Idealize.ShloMosaic.Lib.Tactic
public import Idealize.ShloMosaic.Lib.Affine

@[expose] public section

noncomputable section

namespace Cert.AllReduce

open Idealize.ShloMosaic Idealize.ShloMosaic.TcCoe
open Idealize.SL Idealize.SL.Sem
open Cert.KernelIdeal Cert.KernelIdeal.Gen

variable {F : FTy → Type} [FloatOps F]

/-! ## Shapes, rectangles of whole rows, slices -/

/-- `n` rows of 1024 lanes. -/
abbrev Sh (n : ℕ) : Shape := ⟨2, ![n, 1024]⟩

/-- A block of at least one row has an element. -/
theorem Sh_pos {n : ℕ} (h : 0 < n) : 0 < (Sh n).numel := by
  unfold Shape.numel
  rw [Fin.prod_univ_two]
  exact Nat.mul_pos h (show 0 < 1024 by decide)

/-- Rows `o … o + k` lie inside `n` rows. -/
theorem inb_rows {n o k : ℕ} (h : o + k ≤ n) : ∀ a, (![o, 0] : Fin 2 → ℕ) a + (Sh k).size a ≤ (Sh n).size a := by
  intro a
  fin_cases a
  · exact h
  · exact Nat.le_of_eq (Nat.zero_add 1024)

/-- Rows `o … o + k` of `n`. -/
abbrev rows {n : ℕ} (o k : ℕ) (h : o + k ≤ n) : Rect (Sh n) := Rect.unit (s := Sh n) ![o, 0] (Sh k).size (inb_rows h)

/-- Those rows of a buffer. -/
abbrev sl {sp : Space} {n : ℕ} {e : EltTy} (M : Memref sig .tc sp (Sh n) e) (o k : ℕ) (h : o + k ≤ n) : Memref sig .tc sp (Sh k) e :=
  M.slice (rows o k h) (fun _ => rfl)

/-- An even number of rows from an even row on fills whole packed pairs of rows. -/
theorem rows_packed {n o k : ℕ} (h : o + k ≤ n) (ho : 2 ∣ o) (hk : 2 ∣ k) : (rows (n := n) o k h).PackedRows (EltTy.packing .bf16) :=
  Affine.packed_dvd (s := Sh n) (p := 2) (le_refl 2) ho hk

/-- An even number of rows from an even row on fills whole words. -/
theorem rows_words {n o k : ℕ} (h : o + k ≤ n) (ho : 2 ∣ o) (hk : 2 ∣ k) : (rows (n := n) o k h).WholeWords (EltTy.packing .bf16) :=
  .inl (rows_packed h ho hk)

/-! ## The parts -/

/-- One part: its index, an eighth of its rows, its first row, the order in which it takes the
    axes, and its buffers. -/
structure Part where
  /-- Its index, the row of the semaphore arrays it uses. -/
  ix : Fin 6
  /-- An eighth of its rows. -/
  h : ℕ
  /-- Its first row. -/
  base : ℕ
  /-- The axis of each phase. -/
  ax : Fin 3 → Fin 3
  /-- It has rows. -/
  hpos : 0 < h
  /-- An even number in each eighth. -/
  heven : 2 ∣ h
  /-- All of them among the 2048. -/
  hbase : base + 8 * h ≤ 2048
  /-- From an even row on. -/
  heb : 2 ∣ base
  /-- Where the three reduce phases' rows arrive. -/
  rb : Memref sig .tc .vmem (Sh (7 * h)) .bf16
  /-- That is a whole buffer. -/
  hrb : rb.IsWhole
  /-- The rows accumulated. -/
  ac : Memref sig .tc .vmem (Sh (4 * h)) .f32
  /-- That is a whole buffer. -/
  hac : ac.IsWhole
  /-- The rows the first phase sends, as loaded. -/
  st : Memref sig .tc .vmem (Sh (4 * h)) .f32
  /-- That is a whole buffer. -/
  hst : st.IsWhole
  /-- The rows a reduce phase sends. -/
  sb : Memref sig .tc .vmem (Sh (4 * h)) .bf16
  /-- That is a whole buffer. -/
  hsb : sb.IsWhole
  /-- The gathered rows, widened. -/
  ag : Memref sig .tc .vmem (Sh (7 * h)) .f32
  /-- That is a whole buffer. -/
  hag : ag.IsWhole

/-- The six parts. -/
def part : Fin 6 → Part
  | 0 => { ix := 0, h := 48, base := 0, ax := ![0, 1, 2], hpos := by decide, heven := by decide, hbase := by decide, heb := by decide
           rb := Memref.whole cc0_scratch0, hrb := Memref.isWhole_whole _, ac := Memref.whole cc0_scratch6, hac := Memref.isWhole_whole _
           st := Memref.whole cc0_scratch12, hst := Memref.isWhole_whole _, sb := Memref.whole cc0_scratch18, hsb := Memref.isWhole_whole _
           ag := Memref.whole cc0_scratch24, hag := Memref.isWhole_whole _ }
  | 1 => { ix := 1, h := 48, base := 768, ax := ![1, 2, 0], hpos := by decide, heven := by decide, hbase := by decide, heb := by decide
           rb := Memref.whole cc0_scratch1, hrb := Memref.isWhole_whole _, ac := Memref.whole cc0_scratch7, hac := Memref.isWhole_whole _
           st := Memref.whole cc0_scratch13, hst := Memref.isWhole_whole _, sb := Memref.whole cc0_scratch19, hsb := Memref.isWhole_whole _
           ag := Memref.whole cc0_scratch25, hag := Memref.isWhole_whole _ }
  | 2 => { ix := 2, h := 48, base := 1408, ax := ![2, 0, 1], hpos := by decide, heven := by decide, hbase := by decide, heb := by decide
           rb := Memref.whole cc0_scratch2, hrb := Memref.isWhole_whole _, ac := Memref.whole cc0_scratch8, hac := Memref.isWhole_whole _
           st := Memref.whole cc0_scratch14, hst := Memref.isWhole_whole _, sb := Memref.whole cc0_scratch20, hsb := Memref.isWhole_whole _
           ag := Memref.whole cc0_scratch26, hag := Memref.isWhole_whole _ }
  | 3 => { ix := 3, h := 48, base := 384, ax := ![0, 1, 2], hpos := by decide, heven := by decide, hbase := by decide, heb := by decide
           rb := Memref.whole cc0_scratch3, hrb := Memref.isWhole_whole _, ac := Memref.whole cc0_scratch9, hac := Memref.isWhole_whole _
           st := Memref.whole cc0_scratch15, hst := Memref.isWhole_whole _, sb := Memref.whole cc0_scratch21, hsb := Memref.isWhole_whole _
           ag := Memref.whole cc0_scratch27, hag := Memref.isWhole_whole _ }
  | 4 => { ix := 4, h := 32, base := 1152, ax := ![1, 2, 0], hpos := by decide, heven := by decide, hbase := by decide, heb := by decide
           rb := Memref.whole cc0_scratch4, hrb := Memref.isWhole_whole _, ac := Memref.whole cc0_scratch10, hac := Memref.isWhole_whole _
           st := Memref.whole cc0_scratch16, hst := Memref.isWhole_whole _, sb := Memref.whole cc0_scratch22, hsb := Memref.isWhole_whole _
           ag := Memref.whole cc0_scratch28, hag := Memref.isWhole_whole _ }
  | 5 => { ix := 5, h := 32, base := 1792, ax := ![2, 0, 1], hpos := by decide, heven := by decide, hbase := by decide, heb := by decide
           rb := Memref.whole cc0_scratch5, hrb := Memref.isWhole_whole _, ac := Memref.whole cc0_scratch11, hac := Memref.isWhole_whole _
           st := Memref.whole cc0_scratch17, hst := Memref.isWhole_whole _, sb := Memref.whole cc0_scratch23, hsb := Memref.isWhole_whole _
           ag := Memref.whole cc0_scratch29, hag := Memref.isWhole_whole _ }

/-- A part's index is its own number. -/
theorem part_ix (i : Fin 6) : (part i).ix = i := by fin_cases i <;> rfl

/-- The argument, the result, and the rows gathered in the narrow format. -/
abbrev xM : Memref sig .tc .hbm (Sh 2048) .f32 := Memref.whole main_arg0
/-- The result. -/
abbrev oM : Memref sig .tc .hbm (Sh 2048) .f32 := Memref.whole main_v1
/-- The gathered rows, all the parts'. -/
abbrev gM : Memref sig .tc .vmem (Sh 2048) .bf16 := Memref.whole cc0_scratch30
/-- It is the whole buffer. -/
theorem hgM : gM.IsWhole := Memref.isWhole_whole _

/-- Cell `(i, j)` lies inside a six by six array of semaphores. -/
theorem inb6 (i j : Fin 6) : ∀ a, (![(i : ℕ), (j : ℕ)] : Fin 2 → ℕ) a + S1x1.size a ≤ S6x6.size a := by
  intro a
  fin_cases a
  · exact i.isLt
  · exact j.isLt

/-- A copy's semaphores: the sender's, the receiver's, and a local copy's, of part `i` and step `j`. -/
abbrev sS (i j : Fin 6) : DmaSem sig :=
  ((cc0_scratch31.slice (Rect.unit (s := S6x6) ![(i : ℕ), (j : ℕ)] S1x1.size (inb6 i j))).squeeze S_ squeezes_S1x1_S_).sem
/-- The receive semaphore of transfer `j` of part `i`. -/
abbrev rS (i j : Fin 6) : DmaSem sig :=
  ((cc0_scratch32.slice (Rect.unit (s := S6x6) ![(i : ℕ), (j : ℕ)] S1x1.size (inb6 i j))).squeeze S_ squeezes_S1x1_S_).sem
/-- Local copy semaphore `j` of part `i`. -/
abbrev cS (i j : Fin 6) : DmaSem sig :=
  ((cc0_scratch33.slice (Rect.unit (s := S6x6) ![(i : ℕ), (j : ℕ)] S1x1.size (inb6 i j))).squeeze S_ squeezes_S1x1_S_).sem

/-- The barrier semaphore. -/
abbrev barS : Sem sig := (SemArray.scalar (sig.barrier 0 rfl) : Sems sig S_).sem

/-! ## Positions and offsets, as the kernel computes them -/

/-- The device's position in the mesh. -/
abbrev posW (c : Dev nD) : BitVec 32 := Scalar.remsi (Scalar.divsi (Dev.word c) 1#32) 8#32

/-- The device's coordinate on an axis. -/
def bitW (c : Dev nD) : Fin 3 → BitVec 32
  | 0 => Scalar.andi (Scalar.xori (posW c) (Scalar.shrsi (posW c) 1#32)) 1#32
  | 1 => Scalar.andi (Scalar.shrsi (posW c) 1#32) 1#32
  | 2 => Scalar.andi (Scalar.shrsi (posW c) 2#32) 1#32

/-- The neighbour along an axis. -/
def devN (c : Dev nD) : Fin 3 → ℕ
  | 0 => k0_dev4 c
  | 1 => k0_dev5 c
  | 2 => k0_dev6 c

/-- The neighbour is a device. -/
theorem devN_lt (c : Dev nD) (a : Fin 3) : devN c a < nD := by
  fin_cases a
  · exact k0_dev4_lt c
  · exact k0_dev5_lt c
  · exact k0_dev6_lt c

/-- The neighbour along an axis. -/
abbrev nbr (c : Dev nD) (a : Fin 3) : Dev nD := ⟨devN c a, devN_lt c a⟩

/-- `b · n` and `(1 - b) · n`: a half's offset, and the other half's. -/
abbrev offW (b : BitVec 32) (n : ℕ) : BitVec 32 := Scalar.muli b (BitVec.ofNat 32 n)
/-- `(1 - b) · n`, the other half's offset. -/
abbrev othW (b : BitVec 32) (n : ℕ) : BitVec 32 := Scalar.muli (Scalar.subi 1#32 b) (BitVec.ofNat 32 n)

variable (P : Part) (c : Dev nD)

/-- The coordinate phase `j` of the part reads. -/
abbrev bW (j : Fin 3) : BitVec 32 := bitW c (P.ax j)

/-- The row number the program computes for the half kept after the first phase. -/
abbrev lo1W : BitVec 32 := Scalar.addi (BitVec.ofNat 32 P.base) (offW (bW P c 0) (4 * P.h))
/-- The row number of the half the first phase gives away. -/
abbrev oth1W : BitVec 32 := Scalar.addi (BitVec.ofNat 32 P.base) (othW (bW P c 0) (4 * P.h))
/-- The row number of the quarter kept after the second phase. -/
abbrev lo2W : BitVec 32 := Scalar.addi (lo1W P c) (offW (bW P c 1) (2 * P.h))
/-- The row number of the eighth kept to the end. -/
abbrev lo3W : BitVec 32 := Scalar.addi (lo2W P c) (offW (bW P c 2) P.h)
/-- The row number of the quarter held after the first gather phase. -/
abbrev up2W : BitVec 32 := Scalar.subi (lo3W P c) (offW (bW P c 2) P.h)
/-- The row number of the eighth the first gather phase brings. -/
abbrev sib2W : BitVec 32 := Scalar.addi (up2W P c) (othW (bW P c 2) P.h)
/-- The row number of the half held after the second gather phase. -/
abbrev up1W : BitVec 32 := Scalar.subi (up2W P c) (offW (bW P c 1) (2 * P.h))
/-- The row number of the quarter the second gather phase brings. -/
abbrev sib1W : BitVec 32 := Scalar.addi (up1W P c) (othW (bW P c 1) (2 * P.h))
/-- The row number of all the part's rows, held after the last gather phase. -/
abbrev up0W : BitVec 32 := Scalar.subi (up1W P c) (offW (bW P c 0) (4 * P.h))
/-- The row number of the half the last gather phase brings. -/
abbrev sib0W : BitVec 32 := Scalar.addi (up0W P c) (othW (bW P c 0) (4 * P.h))

/-! ### The same numbers -/

/-- The device's coordinate on an axis, as a number. -/
def bit (c : Dev nD) (a : Fin 3) : ℕ := (bitW c a).toNat

/-- A coordinate is 0 or 1. -/
theorem bit_le : ∀ (c : Dev nD) (a : Fin 3), bit c a ≤ 1 := by decide +kernel
/-- Crossing an axis flips the coordinate on it. -/
theorem bit_nbr : ∀ (c : Dev nD) (a : Fin 3), bit (nbr c a) a = 1 - bit c a := by decide +kernel
/-- Crossing an axis leaves the other coordinates. -/
theorem bit_nbr_ne : ∀ (c : Dev nD) (a a' : Fin 3), a' ≠ a → bit (nbr c a) a' = bit c a' := by decide +kernel
/-- Crossing an axis twice leads back. -/
theorem nbr_nbr : ∀ (c : Dev nD) (a : Fin 3), nbr (nbr c a) a = c := by decide +kernel

/-- The part's rows the device still holds after `j` reduce phases start here. -/
def lo (P : Part) (c : Dev nD) : ℕ → ℕ
  | 0 => P.base
  | 1 => P.base + bit c (P.ax 0) * (4 * P.h)
  | 2 => P.base + bit c (P.ax 0) * (4 * P.h) + bit c (P.ax 1) * (2 * P.h)
  | _ => P.base + bit c (P.ax 0) * (4 * P.h) + bit c (P.ax 1) * (2 * P.h) + bit c (P.ax 2) * P.h

/-- The rows phase `j` gives away, and gets back from the gather, start here. -/
def sib (P : Part) (c : Dev nD) : ℕ → ℕ
  | 0 => P.base + (1 - bit c (P.ax 0)) * (4 * P.h)
  | 1 => P.base + bit c (P.ax 0) * (4 * P.h) + (1 - bit c (P.ax 1)) * (2 * P.h)
  | _ => P.base + bit c (P.ax 0) * (4 * P.h) + bit c (P.ax 1) * (2 * P.h) + (1 - bit c (P.ax 2)) * P.h

/-- The half kept after the first phase starts where `lo` says. -/
theorem lo1W_eq : ∀ (i : Fin 6) (c : Dev nD), (lo1W (part i) c).toNat = lo (part i) c 1 := by decide +kernel
/-- The half given away in the first phase starts where `sib` says. -/
theorem oth1W_eq : ∀ (i : Fin 6) (c : Dev nD), (oth1W (part i) c).toNat = sib (part i) c 0 := by decide +kernel
/-- The eighth kept to the end starts where `lo` says. -/
theorem lo3W_eq : ∀ (i : Fin 6) (c : Dev nD), (lo3W (part i) c).toNat = lo (part i) c 3 := by decide +kernel
/-- The quarter held after the first gather phase starts where `lo` says. -/
theorem up2W_eq : ∀ (i : Fin 6) (c : Dev nD), (up2W (part i) c).toNat = lo (part i) c 2 := by decide +kernel
/-- The half held after the second gather phase starts where `lo` says. -/
theorem up1W_eq : ∀ (i : Fin 6) (c : Dev nD), (up1W (part i) c).toNat = lo (part i) c 1 := by decide +kernel
/-- The eighth of the first gather phase starts where `sib` says. -/
theorem sib2W_eq : ∀ (i : Fin 6) (c : Dev nD), (sib2W (part i) c).toNat = sib (part i) c 2 := by decide +kernel
/-- The quarter of the second gather phase starts where `sib` says. -/
theorem sib1W_eq : ∀ (i : Fin 6) (c : Dev nD), (sib1W (part i) c).toNat = sib (part i) c 1 := by decide +kernel
/-- The half of the last gather phase starts where `sib` says. -/
theorem sib0W_eq : ∀ (i : Fin 6) (c : Dev nD), (sib0W (part i) c).toNat = sib (part i) c 0 := by decide +kernel
/-- The offsets inside the accumulator, of the rows kept and of those given away, as plain arithmetic. -/
theorem off_eq : ∀ (i : Fin 6) (c : Dev nD) (j : Fin 3),
    (offW (bW (part i) c j) (2 * (part i).h)).toNat = bit c ((part i).ax j) * (2 * (part i).h)
    ∧ (offW (bW (part i) c j) (part i).h).toNat = bit c ((part i).ax j) * (part i).h
    ∧ (othW (bW (part i) c j) (2 * (part i).h)).toNat = (1 - bit c ((part i).ax j)) * (2 * (part i).h)
    ∧ (othW (bW (part i) c j) (part i).h).toNat = (1 - bit c ((part i).ax j)) * (part i).h := by decide +kernel

/-- An even row offset `o` with `k` rows after it below `n`. -/
abbrev Fits (n o k : ℕ) : Prop := o + k ≤ n ∧ 2 ∣ o

section
variable (i : Fin 6) (c : Dev nD)

/-- The half kept after the first phase fits the argument. -/
theorem fits_lo1 : Fits 2048 (lo1W (part i) c).toNat (4 * (part i).h) := by revert i c; decide +kernel
/-- The half given away in the first phase fits the argument. -/
theorem fits_oth1 : Fits 2048 (oth1W (part i) c).toNat (4 * (part i).h) := by revert i c; decide +kernel
/-- The eighth kept to the end fits the result. -/
theorem fits_lo3 : Fits 2048 (lo3W (part i) c).toNat (part i).h := by revert i c; decide +kernel
/-- The quarter held after the first gather phase fits the gathered rows. -/
theorem fits_up2 : Fits 2048 (up2W (part i) c).toNat (2 * (part i).h) := by revert i c; decide +kernel
/-- The half held after the second gather phase fits the gathered rows. -/
theorem fits_up1 : Fits 2048 (up1W (part i) c).toNat (4 * (part i).h) := by revert i c; decide +kernel
/-- The eighth of the first gather phase fits the result. -/
theorem fits_sib2 : Fits 2048 (sib2W (part i) c).toNat (part i).h := by revert i c; decide +kernel
/-- The quarter of the second gather phase fits the result. -/
theorem fits_sib1 : Fits 2048 (sib1W (part i) c).toNat (2 * (part i).h) := by revert i c; decide +kernel
/-- The half of the last gather phase fits the result. -/
theorem fits_sib0 : Fits 2048 (sib0W (part i) c).toNat (4 * (part i).h) := by revert i c; decide +kernel
/-- The rows the second phase keeps fit the accumulator. -/
theorem fits_off1 : Fits (4 * (part i).h) (offW (bW (part i) c 1) (2 * (part i).h)).toNat (2 * (part i).h) := by revert i c; decide +kernel
/-- The rows the third phase keeps fit the accumulator. -/
theorem fits_off2 : Fits (4 * (part i).h) (offW (bW (part i) c 2) (part i).h).toNat (part i).h := by revert i c; decide +kernel
/-- The rows the second phase gives away fit the accumulator. -/
theorem fits_oth1' : Fits (4 * (part i).h) (othW (bW (part i) c 1) (2 * (part i).h)).toNat (2 * (part i).h) := by revert i c; decide +kernel
/-- The rows the third phase gives away fit the accumulator. -/
theorem fits_oth2' : Fits (4 * (part i).h) (othW (bW (part i) c 2) (part i).h).toNat (part i).h := by revert i c; decide +kernel
/-- The first phase's rows fit the receive buffer. -/
theorem fits_rb0 : Fits (7 * (part i).h) 0 (4 * (part i).h) := by revert i; decide +kernel
/-- The second phase's rows fit the receive buffer, after the first's. -/
theorem fits_rb1 : Fits (7 * (part i).h) (4 * (part i).h) (2 * (part i).h) := by revert i; decide +kernel
/-- The third phase's rows fit the receive buffer, after the second's. -/
theorem fits_rb2 : Fits (7 * (part i).h) (4 * (part i).h + 2 * (part i).h) (part i).h := by revert i; decide +kernel
/-- The first gather phase's rows fit the buffer of widened rows. -/
theorem fits_ag0 : Fits (7 * (part i).h) 0 (part i).h := by revert i; decide +kernel
/-- The second gather phase's rows fit the buffer of widened rows, after the first's. -/
theorem fits_ag1 : Fits (7 * (part i).h) (part i).h (2 * (part i).h) := by revert i; decide +kernel
/-- The last gather phase's rows fit the buffer of widened rows, after the second's. -/
theorem fits_ag2 : Fits (7 * (part i).h) ((part i).h + 2 * (part i).h) (4 * (part i).h) := by revert i; decide +kernel

end

/-! ## Values -/

/-- A block has its own number of elements. -/
theorem castsSelf (n : ℕ) : (Sh n).ShapeCasts (Sh n) := rfl

/-- A block narrowed, and widened. -/
abbrev nar {n : ℕ} (v : Vec F (Sh n) .f32) : FVec F (Sh n) .bf16 :=
  shapeCast (Sh n) (truncf (F := F) .bf16 (v : FVec F (Sh n) .f32) bitsLt_bf16_f32) (castsSelf n)
/-- A block widened. -/
abbrev wid {n : ℕ} (v : Vec F (Sh n) .bf16) : FVec F (Sh n) .f32 := extf (F := F) .f32 (v : FVec F (Sh n) .bf16) bitsLt_bf16_f32
/-- A block with what arrived added. -/
abbrev sumv {n : ℕ} (k : Vec F (Sh n) .f32) (r : Vec F (Sh n) .bf16) : FVec F (Sh n) .f32 := addf (F := F) (k : FVec F (Sh n) .f32) (wid r)
/-- The kernel's last arithmetic. -/
abbrev relv {n : ℕ} (s : FVec F (Sh n) .f32) : FVec F (Sh n) .f32 := maximumf (F := F) s (broadcast (Sh n) (Scalar.ofBits (F := F) .f32 0x00000000#32 : F .f32))
/-- The epilogue of a block of sums: `tanh(s)·s² + max(s, 0)³`. -/
abbrev epi {n : ℕ} (s : FVec F (Sh n) .f32) : FVec F (Sh n) .f32 :=
  addf (F := F) (mulf (F := F) (mulf (F := F) (tanh (F := F) s) s) s) (mulf (F := F) (mulf (F := F) (relv s) (relv s)) (relv s))

/-! ## The steps -/

/-- A program of the kernel. -/
abbrev Pg (F : FTy → Type) (α : Type) : Type 1 := Prog (TpuEff nD τ sig (Elt F) Λ₀ .tc) α

section steps

variable (P : Part)

/-- Load `k` rows of a VMEM buffer from row `o`; store them. -/
abbrev ldF {n : ℕ} (M : Memref sig .tc .vmem (Sh n) .f32) (o k : ℕ) (h : o + k ≤ n) (hk : 0 < k) : Pg F (Vec F (Sh k) .f32) :=
  Prog.lift (.load M (rows o k h).toLoadRect (View.loadsAt_vmem (Sh_pos hk)))
/-- A load of rows in the narrow format. -/
abbrev ldB {n : ℕ} (M : Memref sig .tc .vmem (Sh n) .bf16) (o k : ℕ) (h : o + k ≤ n) (hk : 0 < k) : Pg F (Vec F (Sh k) .bf16) :=
  Prog.lift (.load M (rows o k h).toLoadRect (View.loadsAt_vmem (Sh_pos hk)))
/-- A store of rows. -/
abbrev svF {n : ℕ} (M : Memref sig .tc .vmem (Sh n) .f32) (o k : ℕ) (h : o + k ≤ n) (hk : 0 < k) (w : FVec F (Sh k) .f32) : Pg F PUnit :=
  Prog.lift (.store M (rows o k h) w Finset.univ (View.stores_vmem_bits_univ (Sh_pos hk) rfl) (.inl rfl))
/-- A store of rows in the narrow format. -/
abbrev svB {n : ℕ} (M : Memref sig .tc .vmem (Sh n) .bf16) (hM : M.IsWhole) (o k : ℕ) (h : Fits n o k) (hk : 0 < k) (he : 2 ∣ k)
    (w : FVec F (Sh k) .bf16) : Pg F PUnit :=
  Prog.lift (.store M (rows o k h.1) w Finset.univ (View.stores_vmem (Sh_pos hk) (hM.storeExact_slice rfl _ (rows_packed h.1 h.2 he)) (fun _ => rfl)) (.inl rfl))

/-- A local copy in the wide format, and the wait for one. -/
abbrev cpy {sp sp' : Space} {n : ℕ} (src : Memref sig .tc sp (Sh n) .f32) (dst : Memref sig .tc sp' (Sh n) .f32) (s : DmaSem sig)
    (ht : DmaTarget.Typed (nD := nD) (τ := τ) (p := (.tc : Proc τ)) sp (.dma s) (.here dst)) : Pg F PUnit :=
  Prog.lift (.enqueueDma src (.here dst) (.dma s) (View.wordExact_bits rfl) (View.wordExact_bits rfl) ht)
/-- The wait for a local copy. -/
abbrev cwt {sp sp' : Space} {n : ℕ} (src : Memref sig .tc sp (Sh n) .f32) (dst : Memref sig .tc sp' (Sh n) .f32) (s : DmaSem sig) : Pg F PUnit :=
  Prog.lift (.waitDma2 s src dst (View.wordExact_bits rfl) (View.wordExact_bits rfl))

/-- A copy of rows in the narrow format to another device, and the waits for its two ends. -/
abbrev rcp {n n' k : ℕ} (c' : Dev nD) (M : Memref sig .tc .vmem (Sh n) .bf16) (hM : M.IsWhole) (M' : Memref sig .tc .vmem (Sh n') .bf16) (hM' : M'.IsWhole)
    (o o' : ℕ) (h : Fits n o k) (h' : Fits n' o' k) (he : 2 ∣ k) (s r : DmaSem sig) : Pg F PUnit :=
  Prog.lift (.enqueueDma (sl M o k h.1) (.remote (Dev.tc c') (sl M' o' k h'.1) (.dma s)) (.dma r)
    (hM.wordExact_slice rfl _ (rows_words h.1 h.2 he)) (hM'.wordExact_slice rfl _ (rows_words h'.1 h'.2 he)) ⟨⟨rfl, Or.inl rfl⟩, trivial⟩)
/-- The wait for an end of a transfer. -/
abbrev rwt {n n' k : ℕ} (M : Memref sig .tc .vmem (Sh n) .bf16) (hM : M.IsWhole) (M' : Memref sig .tc .vmem (Sh n') .bf16) (hM' : M'.IsWhole)
    (o o' : ℕ) (h : Fits n o k) (h' : Fits n' o' k) (he : 2 ∣ k) (s : DmaSem sig) : Pg F PUnit :=
  Prog.lift (.waitDma2 s (sl M o k h.1) (sl M' o' k h'.1)
    (hM.wordExact_slice rfl _ (rows_words h.1 h.2 he)) (hM'.wordExact_slice rfl _ (rows_words h'.1 h'.2 he)))

/-- An eighth of a part's rows is even; -/
theorem Part.e1 : 2 ∣ P.h := P.heven
/-- so is a quarter, -/
theorem Part.e2 : 2 ∣ 2 * P.h := Dvd.intro _ rfl
/-- and a half. -/
theorem Part.e4 : 2 ∣ 4 * P.h := Dvd.dvd.mul_right (by decide) _
/-- A quarter of a part's rows is not empty; -/
theorem Part.p2 : 0 < 2 * P.h := Nat.mul_pos (by decide) P.hpos
/-- neither is a half. -/
theorem Part.p4 : 0 < 4 * P.h := Nat.mul_pos (by decide) P.hpos
/-- The first `k` rows fit. -/
theorem fits0 {n k : ℕ} (h : k ≤ n) : Fits n 0 k := ⟨by omega, Dvd.intro 0 rfl⟩
/-- A quarter of a part is at most a half; -/
theorem Part.le2 : 2 * P.h ≤ 4 * P.h := Nat.mul_le_mul_right _ (by decide)
/-- so is an eighth. -/
theorem Part.le1 : P.h ≤ 4 * P.h := Nat.le_mul_of_pos_left _ (by decide)

/-- The two loads of the argument's rows: those kept, and those the first phase sends. -/
def startP (k s : ℕ) (hk : Fits 2048 k (4 * P.h)) (hs : Fits 2048 s (4 * P.h)) : Pg F PUnit := do
  cpy (sl xM k (4 * P.h) hk.1) (sl P.ac 0 (4 * P.h) (fits0 (le_refl _)).1) (cS P.ix 0) ⟨Or.inl rfl, trivial⟩
  cpy (sl xM s (4 * P.h) hs.1) P.st (cS P.ix 2) ⟨Or.inl rfl, trivial⟩

/-- The first phase's rows narrowed and sent. -/
def sendP (c' : Dev nD) (s : ℕ) (hs : Fits 2048 s (4 * P.h)) : Pg F PUnit := do
  cwt (sl xM s (4 * P.h) hs.1) P.st (cS P.ix 2)
  let v ← ldF P.st 0 (4 * P.h) (fits0 (le_refl _)).1 P.p4
  let _ ← ldB P.sb 0 (4 * P.h) (fits0 (le_refl _)).1 P.p4
  svB P.sb P.hsb 0 (4 * P.h) (fits0 (le_refl _)) P.p4 P.e4 (nar v)
  rcp c' P.sb P.hsb P.rb P.hrb 0 0 (fits0 (le_refl _)) (fits0 (Nat.mul_le_mul_right _ (by decide))) P.e4 (sS P.ix 0) (rS P.ix 0)

/-- A reduce phase's two ends awaited, and what arrived loaded. -/
def takeP (j : Fin 6) (o k : ℕ) (h : Fits (7 * P.h) o k) (hk : 0 < k) (he : 2 ∣ k) (hl : k ≤ 4 * P.h) : Pg F (Vec F (Sh k) .bf16) := do
  rwt P.rb P.hrb P.sb P.hsb o 0 h (fits0 hl) he (sS P.ix j)
  rwt P.sb P.hsb P.rb P.hrb 0 o (fits0 hl) h he (rS P.ix j)
  ldB P.rb o k h.1 hk

/-- What arrived added to the rows kept, at the front of the accumulator. -/
def addP (o k : ℕ) (h : Fits (4 * P.h) o k) (hk : 0 < k) (hl : k ≤ 4 * P.h) (r : Vec F (Sh k) .bf16) : Pg F PUnit := do
  let v ← ldF P.ac o k h.1 hk
  let _ ← ldF P.ac 0 k (fits0 hl).1 hk
  svF P.ac 0 k (fits0 hl).1 hk (shapeCast (Sh k) (sumv v r) (castsSelf k))

/-- The next phase's rows narrowed and sent. -/
def giveP (c' : Dev nD) (j : Fin 6) (o o' k : ℕ) (h : Fits (4 * P.h) o k) (h' : Fits (7 * P.h) o' k) (hk : 0 < k) (he : 2 ∣ k) (hl : k ≤ 4 * P.h) :
    Pg F PUnit := do
  let v ← ldF P.ac o k h.1 hk
  let _ ← ldB P.sb 0 k (fits0 hl).1 hk
  svB P.sb P.hsb 0 k (fits0 hl) hk he (nar v)
  rcp c' P.sb P.hsb P.rb P.hrb 0 o' (fits0 hl) h' he (sS P.ix j) (rS P.ix j)

/-- The last sum, its epilogue stored in both formats, and the rows' copy to the result started. -/
def lastP (o g : ℕ) (h : Fits (4 * P.h) o P.h) (hg : Fits 2048 g P.h) (r : Vec F (Sh P.h) .bf16) : Pg F PUnit := do
  let v ← ldF P.ac o P.h h.1 P.hpos
  let _ ← ldF P.ac 0 P.h (fits0 P.le1).1 P.hpos
  svF P.ac 0 P.h (fits0 P.le1).1 P.hpos (shapeCast (Sh P.h) (epi (sumv v r)) (castsSelf P.h))
  let _ ← ldB gM g P.h hg.1 P.hpos
  svB gM hgM g P.h hg P.hpos P.e1 (nar (epi (sumv v r)))
  cpy (sl P.ac 0 P.h (fits0 P.le1).1) (sl oM g P.h hg.1) (cS P.ix 1) ⟨Or.inl rfl, trivial⟩

/-- Gathered rows sent on, to the same rows of a neighbour. -/
def fwdP (c' : Dev nD) (j : Fin 6) (g k : ℕ) (hg : Fits 2048 g k) (he : 2 ∣ k) : Pg F PUnit :=
  rcp c' gM hgM gM hgM g g hg hg he (sS P.ix j) (rS P.ix j)

/-- A gather phase's two ends awaited, the rows that arrived widened, and their copy to the result started. -/
def gatP (j : Fin 6) (g s o k : ℕ) (hg : Fits 2048 g k) (hs : Fits 2048 s k) (h : Fits (7 * P.h) o k) (hk : 0 < k) (he : 2 ∣ k) : Pg F PUnit := do
  rwt gM hgM gM hgM g g hg hg he (sS P.ix j)
  rwt gM hgM gM hgM g g hg hg he (rS P.ix j)
  let v ← ldB gM s k hs.1 hk
  let _ ← ldF P.ag o k h.1 hk
  svF P.ag o k h.1 hk (shapeCast (Sh k) (wid v) (castsSelf k))
  cpy (sl P.ag o k h.1) (sl oM s k hs.1) (cS P.ix j) ⟨Or.inl rfl, trivial⟩

/-- A copy to the result awaited. -/
def outA (g : ℕ) (hg : Fits 2048 g P.h) : Pg F PUnit :=
  cwt (sl P.ac 0 P.h (fits0 P.le1).1) (sl oM g P.h hg.1) (cS P.ix 1)
/-- The same for gathered rows. -/
def outG (j : Fin 6) (s o k : ℕ) (hs : Fits 2048 s k) (h : Fits (7 * P.h) o k) : Pg F PUnit :=
  cwt (sl P.ag o k h.1) (sl oM s k hs.1) (cS P.ix j)

end steps

/-! ## The body -/

/-- A step taken for each part in turn. -/
def each (b : Fin 6 → Pg F PUnit) : Pg F PUnit := do
  b 0; b 1; b 2; b 3; b 4; b 5

section body
variable (c : Dev nD)

/-- The mesh's handshake: one signal along each axis, and the wait for the three. -/
def barP : Pg F PUnit := do
  semSignalWord (nbr c 0) barS 1#32
  semSignalWord (nbr c 1) barS 1#32
  semSignalWord (nbr c 2) barS 1#32
  semWaitWord barS 3#32

/-- A part's two loads started. -/
def stepStart (i : Fin 6) : Pg F PUnit := startP (part i) (lo1W (part i) c).toNat (oth1W (part i) c).toNat (fits_lo1 i c) (fits_oth1 i c)
/-- A part's first transfer. -/
def stepSend (i : Fin 6) : Pg F PUnit := sendP (part i) (nbr c ((part i).ax 0)) (oth1W (part i) c).toNat (fits_oth1 i c)
/-- A part's first reduce phase: what arrived added to the rows loaded, and the second transfer started. -/
def stepR0 (i : Fin 6) : Pg F PUnit := do
  let r ← takeP (part i) 0 0 (4 * (part i).h) (fits_rb0 i) (part i).p4 (part i).e4 (le_refl _)
  cwt (sl xM (lo1W (part i) c).toNat (4 * (part i).h) (fits_lo1 i c).1) (sl (part i).ac 0 (4 * (part i).h) (fits0 (le_refl _)).1) (cS (part i).ix 0)
  addP (part i) 0 (4 * (part i).h) (fits0 (le_refl _)) (part i).p4 (le_refl _) r
  giveP (part i) (nbr c ((part i).ax 1)) 1 (othW (bW (part i) c 1) (2 * (part i).h)).toNat (4 * (part i).h) (2 * (part i).h)
    (fits_oth1' i c) (fits_rb1 i) (part i).p2 (part i).e2 (part i).le2
/-- Its second reduce phase, which starts the third transfer. -/
def stepR1 (i : Fin 6) : Pg F PUnit := do
  let r ← takeP (part i) 1 (4 * (part i).h) (2 * (part i).h) (fits_rb1 i) (part i).p2 (part i).e2 (part i).le2
  addP (part i) (offW (bW (part i) c 1) (2 * (part i).h)).toNat (2 * (part i).h) (fits_off1 i c) (part i).p2 (part i).le2 r
  giveP (part i) (nbr c ((part i).ax 2)) 2 (othW (bW (part i) c 2) (part i).h).toNat (4 * (part i).h + 2 * (part i).h) (part i).h
    (fits_oth2' i c) (fits_rb2 i) (part i).hpos (part i).e1 (part i).le1
/-- Its third reduce phase: the last sum, the epilogue, its copy to the result, and the first gather transfer. -/
def stepR2 (i : Fin 6) : Pg F PUnit := do
  let r ← takeP (part i) 2 (4 * (part i).h + 2 * (part i).h) (part i).h (fits_rb2 i) (part i).hpos (part i).e1 (part i).le1
  lastP (part i) (offW (bW (part i) c 2) (part i).h).toNat (lo3W (part i) c).toNat (fits_off2 i c) (fits_lo3 i c) r
  fwdP (part i) (nbr c ((part i).ax 2)) 3 (lo3W (part i) c).toNat (part i).h (fits_lo3 i c) (part i).e1
/-- Its first gather phase: the rows that came, widened and copied to the result, and the next transfer started. -/
def stepG0 (i : Fin 6) : Pg F PUnit := do
  gatP (part i) 3 (lo3W (part i) c).toNat (sib2W (part i) c).toNat 0 (part i).h (fits_lo3 i c) (fits_sib2 i c) (fits_ag0 i) (part i).hpos (part i).e1
  fwdP (part i) (nbr c ((part i).ax 1)) 4 (up2W (part i) c).toNat (2 * (part i).h) (fits_up2 i c) (part i).e2
/-- Its second gather phase. -/
def stepG1 (i : Fin 6) : Pg F PUnit := do
  gatP (part i) 4 (up2W (part i) c).toNat (sib1W (part i) c).toNat (part i).h (2 * (part i).h) (fits_up2 i c) (fits_sib1 i c) (fits_ag1 i) (part i).p2 (part i).e2
  fwdP (part i) (nbr c ((part i).ax 0)) 5 (up1W (part i) c).toNat (4 * (part i).h) (fits_up1 i c) (part i).e4
/-- Its last gather phase, which starts no transfer. -/
def stepG2 (i : Fin 6) : Pg F PUnit :=
  gatP (part i) 5 (up1W (part i) c).toNat (sib0W (part i) c).toNat ((part i).h + 2 * (part i).h) (4 * (part i).h) (fits_up1 i c) (fits_sib0 i c) (fits_ag2 i) (part i).p4 (part i).e4
/-- The copy of its own rows to the result, awaited. -/
def stepO0 (i : Fin 6) : Pg F PUnit := outA (part i) (lo3W (part i) c).toNat (fits_lo3 i c)
/-- The copy of the first gather phase's rows, awaited. -/
def stepO1 (i : Fin 6) : Pg F PUnit := outG (part i) 3 (sib2W (part i) c).toNat 0 (part i).h (fits_sib2 i c) (fits_ag0 i)
/-- The copy of the second gather phase's rows, awaited. -/
def stepO2 (i : Fin 6) : Pg F PUnit := outG (part i) 4 (sib1W (part i) c).toNat (part i).h (2 * (part i).h) (fits_sib1 i c) (fits_ag1 i)
/-- The copy of the last gather phase's rows, awaited. -/
def stepO3 (i : Fin 6) : Pg F PUnit := outG (part i) 5 (sib0W (part i) c).toNat ((part i).h + 2 * (part i).h) (4 * (part i).h) (fits_sib0 i c) (fits_ag2 i)

/-- What the device with index `c` runs. -/
def run : Pg F PUnit := do
  each (stepStart c)
  barP c
  each (stepSend c)
  each (stepR0 c)
  each (stepR1 c)
  each (stepR2 c)
  each (stepG0 c)
  each (stepG1 c)
  each (stepG2 c)
  each (stepO0 c)
  each (stepO1 c)
  each (stepO2 c)
  each (stepO3 c)

end body

/-- The kernel's body. -/
def body : Pg F PUnit := do
  let c ← Prog.lift .deviceId
  run c

set_option maxRecDepth 65536 in
/-- The printed body is that program: by unfolding both. -/
theorem body_eq (t : Fin cfg0.N) : bodyAt0 (F := F) t = body := by
  unfold bodyAt0
  chain_rfl

end Cert.AllReduce

end
-- ==== Proof.Rows.lean ====
/-
Ownership of whole rows of a buffer.

A device owns rows `o … o + k` of a buffer at contents given row by row (`own`). Rows split and join,
change name where the contents agree, and are what the kernel's loads, stores and local copies read
and write; each of those effects is given its rule here in those terms.
-/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resources -/

/-- The duties of a cell are named by the mesh's axes. -/
abbrev UB : Type := URounds (GSem nD τ sig) (Fin 3)
/-- The launch's rounds, the kernel's, and the counters its local copies take their tokens from. -/
abbrev UU : Type := UR sig nD τ × (UB × Counters)

local notation "𝕄" => MT nD τ sig Unit (Elt F) ℕ UU ℕ

/-- Where the launch's own ghost state lives. -/
abbrev EP : Emb (UR sig nD τ) (MT nD τ sig Unit (Elt F) ℕ UU ℕ) := embL
/-- Where the rounds of the cells live. -/
def ER : Emb UB (MT nD τ sig Unit (Elt F) ℕ UU ℕ) := (Emb.inl : Emb UB (UB × Counters)).trans embR
/-- Where the local copies' counters live. -/
abbrev EC : UEmb Counters (MT nD τ sig Unit (Elt F) ℕ UU ℕ) := countersEmb

/-- The rounds live among the user's ghost state. -/
instance ER_landsIn : (ER : Emb UB 𝕄).LandsIn (upEmb : UEmb _ 𝕄) := by unfold ER embR; infer_instance

/-- No loop of the program has a variant. -/
abbrev 𝒱₀ : Variants := Variants.none

/-- What device `c`'s core proves of a program. -/
abbrev WP {α : Type} (c : Dev nD) (p : Pg F α) (Q : α → sProp 𝕄) : sProp 𝕄 :=
  wp frame (wpE (defs₀ (F := F)) 𝒱₀ (c : Thread nD τ) none) Set.univ p Q

/-! ## Contents by rows -/

/-- Contents by row and lane. -/
abbrev Arr (α : Type) : Type := ℕ → Fin 1024 → α

/-- Rows `o … o + k` of them, as a block. -/
def cut {α : Type} (X : Arr α) (o k : ℕ) : (Sh k).Idx → α := fun j => X (o + (j 0).val) (j 1)

/-- Two families with the same rows have the same block. -/
theorem cut_congr {α : Type} {X Y : Arr α} {o o' k : ℕ} (h : ∀ r, r < k → ∀ l, X (o + r) l = Y (o' + r) l) : cut X o k = cut Y o' k :=
  funext fun j => h (j 0).val (j 0).isLt (j 1)

/-! ## Rows owned -/

section own
variable {sp : Space} {n : ℕ} {e : EltTy}

/-- The elements of rows `o … o + k`. -/
def rset (M : Memref sig .tc sp (Sh n) e) (o k : ℕ) : Finset M.view.ty.Idx :=
  (Finset.univ.filter fun j : (Sh n).Idx => o ≤ (j 0).val ∧ (j 0).val < o + k).map M.view.emb

/-- Device `c` owns rows `o … o + k` of `M`, which hold `X`'s rows of those numbers. -/
def own (c : Dev nD) (M : Memref sig .tc sp (Sh n) e) (o k : ℕ) (X : Arr (Elt F e)) : sProp 𝕄 :=
  iprop(∃ f : Buf (Elt F) (M.view.loc (c : Thread nD τ)),
    ⌜∀ j : (Sh n).Idx, o ≤ (j 0).val → (j 0).val < o + k → M.view.read (Elt F) f j = X (j 0).val (j 1)⌝
      ∗ (M.view.loc (c : Thread nD τ) ↦[rset M o k]{fullShare} f))

/-- Owned rows may be kept in an invariant. -/
instance own_storable (c : Dev nD) (M : Memref sig .tc sp (Sh n) e) (o k : ℕ) (X : Arr (Elt F e)) :
    BI.Storable (upEmb : UEmb _ 𝕄) (own (F := F) c M o k X) := by unfold own; infer_instance

variable (c : Dev nD) (M : Memref sig .tc sp (Sh n) e)

omit [FloatOps F] in
/-- What rows hold may be stated by any family with those rows. -/
theorem own_congr {o k : ℕ} {X Y : Arr (Elt F e)} (h : ∀ r, o ≤ r → r < o + k → ∀ l, X r l = Y r l) :
    own (F := F) c M o k X ⊢ own c M o k Y := by
  unfold own
  iintro ⟨%f, %hf, H⟩
  iexists f
  isplitr
  · ipureintro
    exact fun j h1 h2 => (hf j h1 h2).trans (h _ h1 h2 _)
  · iexact H

/-- Rows that follow one another have no element in common. -/
theorem rset_disjoint {o k k' : ℕ} : Disjoint (rset M o k) (rset M (o + k) k') := by
  unfold rset
  rw [Finset.disjoint_map]
  refine Finset.disjoint_left.mpr fun j h1 h2 => ?_
  have h1 := (Finset.mem_filter.mp h1).2
  have h2 := (Finset.mem_filter.mp h2).2
  omega

/-- Rows followed by rows are the rows of both. -/
theorem rset_union {o k k' : ℕ} : rset M o (k + k') = rset M o k ∪ rset M (o + k) k' := by
  unfold rset
  rw [← Finset.map_union, ← Finset.filter_or]
  refine congrArg _ (Finset.filter_congr fun j _ => ?_)
  omega

omit [FloatOps F] in
/-- Rows split in two. -/
theorem own_split (o k k' : ℕ) (X : Arr (Elt F e)) :
    own (F := F) c M o (k + k') X ⊢ iprop(own c M o k X ∗ own c M (o + k) k' X) := by
  unfold own
  iintro ⟨%f, %hf, H⟩
  rw [rset_union]
  ihave H' := (pointsTo_union (rset_disjoint M)).1 $$ H
  icases H' with ⟨H1, H2⟩
  isplitl [H1]
  · iexists f
    isplitr
    · ipureintro; exact fun j h1 h2 => hf j h1 (by omega)
    · iexact H1
  · iexists f
    isplitr
    · ipureintro; exact fun j h1 h2 => hf j (by omega) (by omega)
    · iexact H2

omit [FloatOps F] in
/-- Two runs of rows, one after the other, join. -/
theorem own_join (o k k' : ℕ) (X : Arr (Elt F e)) :
    iprop(own (F := F) c M o k X ∗ own c M (o + k) k' X) ⊢ own c M o (k + k') X := by
  unfold own
  iintro ⟨⟨%f, %hf, H1⟩, %g, %hg, H2⟩
  iexists (rset M (o + k) k').piecewise g f
  isplitr
  · ipureintro
    intro j h1 h2
    have e1 (F' : Buf (Elt F) (M.view.loc (c : Thread nD τ))) : M.view.read (Elt F) F' j = _root_.cast (congrArg (Elt F) M.view.elt_eq) (F' (M.view.emb j)) := rfl
    by_cases hj : (j 0).val < o + k
    · rw [← hf j h1 hj, e1, e1, Finset.piecewise_eq_of_notMem]
      unfold rset
      rw [Finset.mem_map']
      intro hm
      have := (Finset.mem_filter.mp hm).2
      omega
    · rw [← hg j (by omega) (by omega), e1, e1, Finset.piecewise_eq_of_mem]
      unfold rset
      rw [Finset.mem_map']
      exact Finset.mem_filter.mpr ⟨Finset.mem_univ _, by omega, by omega⟩
  · rw [rset_union]
    iapply (pointsTo_join (rset_disjoint M))
    isplitl [H1] <;> iassumption

/-- A slice's elements are its rows. -/
theorem set_sl (o k : ℕ) (h : o + k ≤ n) : (sl M o k h).view.set = rset M o k := by
  show (M.view.slice (rows o k h)).set = _
  rw [View.set_slice]
  unfold rset
  refine congrArg _ (Finset.ext fun j => ?_)
  rw [Rect.mem_set_unit]
  constructor
  · intro hj
    have := hj 0
    exact Finset.mem_filter.mpr ⟨Finset.mem_univ _, this.1, this.2⟩
  · intro hj a
    have h' := (Finset.mem_filter.mp hj).2
    fin_cases a
    · exact h'
    · exact ⟨Nat.zero_le _, lt_of_lt_of_eq (j 1).isLt (Nat.zero_add _).symm⟩

/-- A slice's element `j` is its buffer's at the row `o` further. -/
theorem emb_rows {o k : ℕ} (h : o + k ≤ n) (j : (Sh k).Idx) :
    ((((rows (n := n) o k h).emb j : (Sh n).Idx) 0).val = o + (j 0).val) ∧ (((rows (n := n) o k h).emb j : (Sh n).Idx) 1 : Fin 1024) = j 1 := by
  constructor
  · show o + 1 * (j 0).val = _
    rw [Nat.one_mul]
  · refine Fin.ext ?_
    show 0 + 1 * (j 1).val = _
    rw [Nat.one_mul, Nat.zero_add]

omit [FloatOps F] in
/-- Reading a slice of rows reads the family's rows. -/
theorem read_sl {o k : ℕ} (h : o + k ≤ n) (f : M.view.ty.Contents (Elt F)) (X : Arr (Elt F e))
    (hf : ∀ j : (Sh n).Idx, o ≤ (j 0).val → (j 0).val < o + k → M.view.read (Elt F) f j = X (j 0).val (j 1)) :
    (M.view.slice (rows o k h)).read (Elt F) f = cut X o k := by
  funext j
  have he := emb_rows (n := n) h j
  show M.view.read (Elt F) f ((rows o k h).emb j) = _
  have hj : (j 0).val < k := (j 0).isLt
  rw [hf _ (by rw [he.1]; omega) (by rw [he.1]; omega)]
  unfold cut
  rw [he.1]
  exact congrArg _ he.2

omit [FloatOps F] in
/-- Owning the rows is owning the slice, at the rows' contents. -/
theorem own_to_sl (o k : ℕ) (h : o + k ≤ n) (X : Arr (Elt F e)) :
    own (F := F) c M o k X ⊢ owns (c : Thread nD τ) (sl M o k h) fullShare (cut X o k) := by
  unfold own owns
  iintro ⟨%f, %hf, H⟩
  iexists f
  isplitr
  · ipureintro; exact read_sl M h f X hf
  · rw [set_sl]; iexact H

omit [FloatOps F] in
/-- Owning a slice of a buffer at some rows is owning those rows. -/
theorem own_of_sl (o k : ℕ) (h : o + k ≤ n) (X : Arr (Elt F e)) :
    (owns (c : Thread nD τ) (sl M o k h) fullShare (cut X o k) : sProp 𝕄) ⊢ own (F := F) c M o k X := by
  unfold own owns
  iintro ⟨%f, %hf, H⟩
  iexists f
  isplitr
  · ipureintro
    intro j h1 h2
    have hj : (j 0).val - o < k := by omega
    let i : (Sh k).Idx := fun a => match a with | 0 => (⟨(j 0).val - o, hj⟩ : Fin k) | 1 => (j 1 : Fin 1024)
    have hh := emb_rows (n := n) h i
    have he : (rows (n := n) o k h).emb i = j := by
      funext a
      fin_cases a
      · refine Fin.ext (hh.1.trans ?_)
        exact Nat.add_sub_cancel' h1
      · exact hh.2
    have := congrFun hf i
    rw [show (sl M o k h).view.read (Elt F) f i = M.view.read (Elt F) f ((rows (n := n) o k h).emb i) from rfl, he] at this
    rw [this]
    show X (o + ((j 0).val - o)) (j 1) = _
    rw [Nat.add_sub_cancel' h1]
  · rw [set_sl]; iexact H

omit [FloatOps F] in
/-- Owning all the rows is owning the buffer. -/
theorem rset_all : rset M 0 n = M.view.set := by
  unfold rset View.set
  refine congrArg _ (Finset.filter_true_of_mem fun j _ => ⟨Nat.zero_le _, ?_⟩)
  rw [Nat.zero_add]
  exact (j 0).isLt

omit [FloatOps F] in
/-- Owning all the rows is owning the buffer; -/
theorem own_to_all (X : Arr (Elt F e)) : own (F := F) c M 0 n X ⊢ owns (c : Thread nD τ) M fullShare (cut X 0 n) := by
  unfold own owns
  rw [rset_all]
  iintro ⟨%f, %hf, H⟩
  iexists f
  isplitr
  · ipureintro
    funext j
    have hj : (j 0).val < n := (j 0).isLt
    rw [hf j (Nat.zero_le _) (by omega)]
    unfold cut
    rw [Nat.zero_add]
  · iexact H

omit [FloatOps F] in
/-- and the other way round. -/
theorem own_of_all (X : Arr (Elt F e)) : (owns (c : Thread nD τ) M fullShare (cut X 0 n) : sProp 𝕄) ⊢ own (F := F) c M 0 n X := by
  unfold own owns
  rw [rset_all]
  iintro ⟨%f, %hf, H⟩
  iexists f
  isplitr
  · ipureintro
    intro j _ _
    rw [hf]
    unfold cut
    rw [Nat.zero_add]
  · iexact H

/-- Rows owned at any contents. -/
def ownE (c : Dev nD) (M : Memref sig .tc sp (Sh n) e) (o k : ℕ) : sProp 𝕄 := iprop(∃ X : Arr (Elt F e), own c M o k X)

/-- Rows owned at any contents may be kept in an invariant. -/
instance ownE_storable (o k : ℕ) : BI.Storable (upEmb : UEmb _ 𝕄) (ownE (F := F) c M o k) := by unfold ownE; infer_instance

omit [FloatOps F] in
/-- Forgetting what rows hold. -/
theorem ownE_intro (o k : ℕ) (X : Arr (Elt F e)) : own (F := F) c M o k X ⊢ ownE c M o k := by
  unfold ownE
  iintro H
  iexists X
  iexact H

omit [FloatOps F] in
/-- Rows owned at any contents, cut in two; -/
theorem ownE_split (o k k' : ℕ) : ownE (F := F) c M o (k + k') ⊢ iprop(ownE c M o k ∗ ownE c M (o + k) k') := by
  unfold ownE
  iintro ⟨%X, H⟩
  ihave H' := own_split c M o k k' X $$ H
  icases H' with ⟨H1, H2⟩
  isplitl [H1]
  · iexists X; iexact H1
  · iexists X; iexact H2

omit [FloatOps F] in
/-- and joined. -/
theorem ownE_join (o k k' : ℕ) : iprop(ownE (F := F) c M o k ∗ ownE c M (o + k) k') ⊢ ownE c M o (k + k') := by
  unfold ownE
  iintro ⟨⟨%X, H1⟩, %Y, H2⟩
  iexists fun r l => if r < o + k then X r l else Y r l
  iapply own_join
  isplitl [H1]
  · iapply (own_congr c M (X := X) fun r h1 h2 l => (if_pos h2).symm) $$ H1
  · iapply (own_congr c M (X := Y) fun r h1 h2 l => (if_neg (by omega)).symm) $$ H2

end own

/-! ## The rules -/

section rules
variable (c : Dev nD) {α : Type}

/-- A program followed by another is proved one after the other. -/
theorem wpBind {β : Type} (p : Pg F α) (k : α → Pg F β) (Q : β → sProp 𝕄) :
    WP c p (fun a => WP c (k a) Q) ⊢ WP c (p >>= k) Q :=
  Entails.of_eq (wp_bind frame (wpE (defs₀ (F := F)) 𝒱₀ (c : Thread nD τ) none) Set.univ p k Q).symm

/-- A load of owned rows reads them. -/
theorem wp_ld {n : ℕ} {e : EltTy} (M : Memref sig .tc .vmem (Sh n) e) (o k : ℕ) (h : o + k ≤ n) (hl : M.view.LoadsAt (rows o k h).toLoadRect) (X : Arr (Elt F e))
    (Q : ((Sh k).Idx → Elt F e) → sProp 𝕄) :
    iprop(own c M o k X ∗ (own c M o k X -∗ Q (cut X o k))) ⊢ WP c (Prog.lift (.load M (rows o k h).toLoadRect hl)) Q := by
  iintro ⟨H, HQ⟩
  ihave H' := (own_to_sl c M o k h X).trans (Entails.of_eq (by unfold owns; rfl)) $$ H
  icases H' with ⟨%f, %hf, H⟩
  iapply (wp_load_rect 𝒱₀ (c : Thread nD τ) none Set.univ (m := M) (r := rows o k h) (f := f) (Finset.Subset.refl _)) $$ H
  iintro H
  rw [wp_ret]
  imodintro
  rw [show (M.access (rows o k h)).read (Elt F) f = cut X o k from hf]
  iapply HQ
  iapply (own_of_sl c M o k h X)
  unfold owns
  iexists f
  isplitr
  · ipureintro; exact hf
  · iexact H

/-- A store of owned rows leaves what was stored. -/
theorem wp_sv {n : ℕ} {e : EltTy} (M : Memref sig .tc .vmem (Sh n) e) (o k : ℕ) (h : o + k ≤ n) (w : (Sh k).Idx → Elt F e)
    (hx : (M.access (rows o k h)).Stores Finset.univ) (Y : Arr (Elt F e)) (hw : w = cut Y o k) (Q : PUnit → sProp 𝕄) :
    iprop(ownE c M o k ∗ (own c M o k Y -∗ Q ⟨⟩)) ⊢ WP c (Prog.lift (.store M (rows o k h) w Finset.univ hx (.inl rfl))) Q := by
  unfold ownE
  iintro ⟨⟨%X, H⟩, HQ⟩
  ihave H' := (own_to_sl c M o k h X).trans (Entails.of_eq (by unfold owns; rfl)) $$ H
  icases H' with ⟨%f, %hf, H⟩
  iapply (wp_store 𝒱₀ (c : Thread nD τ) none Set.univ (m := M) (r := rows o k h) (w := w) (Mk := Finset.univ) (hx := hx) (f := f) (S := (sl M o k h).view.set) (Finset.Subset.refl _)) $$ H
  iintro H
  rw [wp_ret]
  imodintro
  iapply HQ
  iapply (own_of_sl c M o k h Y)
  unfold owns
  iexists ((M.access (rows o k h)).write (Elt F) f w Finset.univ)
  isplitr
  · ipureintro
    rw [← hw]
    exact View.read_write_univ _ _
  · iexact H

/-- What a copy of `k` rows adds to its semaphores. -/
def cr (k : ℕ) (e : EltTy) : ℕ := (cc0_scratch0 : Ref sig .tc).dmaCredit (Sh k) e

/-- A copy adds something to its semaphores. -/
theorem cr_pos {k : ℕ} (h : 0 < k) (e : EltTy) : 0 < cr k e :=
  sig.dmaCredit_pos _ _ _ _ _ (Sh_pos h)

/-- A block owned at any contents. -/
def ownsE {sp : Space} {s : Shape} {e : EltTy} (c : Dev nD) (M : Memref sig .tc sp s e) : sProp 𝕄 :=
  iprop(∃ v : s.Idx → Elt F e, owns (c : Thread nD τ) M fullShare v)

/-- A local copy under way, that brings `D`. -/
abbrev Fl (c : Dev nD) (s : DmaSem sig) (k : ℕ) (D : sProp 𝕄) : sProp 𝕄 :=
  Transfers.Flight EC (c : Thread nD τ) (.dma s) () (cr k .f32) D

/-- What device `c` owes, whatever it has waited for. -/
def OW (c : Dev nD) (O : CellTallies nD τ sig Unit) : sProp 𝕄 := iprop(∃ W : Waits sig Unit, owes (c : Thread nD τ) O W)

/-- A local copy started brings the destination at the source's contents, and the source back. -/
theorem wp_cpy {sp sp' : Space} {n : ℕ} (hn : 0 < n) (src : Memref sig .tc sp (Sh n) .f32) (dst : Memref sig .tc sp' (Sh n) .f32) (s : DmaSem sig)
    (ht : DmaTarget.Typed (nD := nD) (τ := τ) (p := (.tc : Proc τ)) sp (.dma s) (.here dst)) (v : (Sh n).Idx → F .f32) (D : sProp 𝕄)
    (hD : iprop(owns (c : Thread nD τ) dst fullShare v ∗ owns (c : Thread nD τ) src fullShare v) ⊢ D) (Q : PUnit → sProp 𝕄) :
    iprop(owns (c : Thread nD τ) src fullShare v ∗ ownsE c dst ∗ semVal ((c : Thread nD τ), .dma s) 0 ∗ (Fl c s n D -∗ Q ⟨⟩))
      ⊢ WP c (cpy src dst s ht) Q := by
  unfold ownsE owns
  iintro ⟨⟨%fs, %hfs, Hs⟩, ⟨%w, %fd, %hfd, Hd⟩, Hv, HQ⟩
  iapply (Transfers.wp_dmaLocal EC 𝒱₀ (c : Thread nD τ) none (src := src) (dst := dst) (via := .same) () (cr n .f32) rfl (cr_pos hn _) (Finset.Subset.refl _)) $$ [Hs Hd Hv]
  · isplitl [Hs]; · iexact Hs
    isplitl [Hd]; · iexact Hd
    iexact Hv
  iintro HF
  rw [wp_ret]
  imodintro
  iapply HQ
  iapply (Transfers.Flight_mono EC (c : Thread nD τ) (D' := D) ?_) $$ HF
  refine BIBase.Entails.trans ?_ hD
  unfold owns
  iintro ⟨Hd, Hs⟩
  isplitl [Hd]
  · iexists (dst.view.write (Elt F) fd (src.view.read (Elt F) fs) Finset.univ)
    isplitr
    · ipureintro
      exact (View.read_write_univ _ _).trans hfs
    · iexact Hd
  · iexists fs
    isplitr
    · ipureintro; exact hfs
    · iexact Hs

/-- A local copy awaited. -/
theorem wp_cwt {sp sp' : Space} {n : ℕ} (src : Memref sig .tc sp (Sh n) .f32) (dst : Memref sig .tc sp' (Sh n) .f32) (s : DmaSem sig)
    (D : sProp 𝕄) (O : CellTallies nD τ sig Unit) (Q : PUnit → sProp 𝕄) :
    iprop(Fl c s n D ∗ OW c O ∗ MayWait (c : Thread nD τ) (.dma s) () O ∗ (iprop(D ∗ semVal ((c : Thread nD τ), .dma s) 0 ∗ OW c O) -∗ Q ⟨⟩))
      ⊢ WP c (cwt src dst s) Q := by
  unfold OW
  iintro ⟨HF, ⟨%W, HO⟩, HW, HQ⟩
  iapply (Transfers.wp_waitLocalO EC 𝒱₀ (c : Thread nD τ) none (srcw := src) (dstw := dst) () (N := cr n .f32) rfl) $$ [HF HO HW]
  · isplitl [HF]; · iexact HF
    isplitl [HO] <;> iassumption
  iintro ⟨HD, Hv, HO⟩
  rw [wp_ret]
  imodintro
  iapply HQ
  isplitl [HD]; · iexact HD
  isplitl [Hv]; · iexact Hv
  iexists _
  iexact HO

end rules

end Cert.AllReduce

end
-- ==== Proof.Schedule.lean ====
/-
The exchange's protocol.

Every semaphore that a device waits on after another device (or its own remote copy) raises it is a
cell with one round: the barrier's, with one duty per axis of the mesh, and for each part and each of
its six transfers the sender's and the receiver's, with one duty each. A barrier signal hands the
neighbour the rows it may write to on this device; a sender's semaphore hands the rows sent back; a
receiver's hands over the rows that arrived, at their contents.
-/
module

public import proofs.«01_k».proof.Proof.Rows
public import Mathlib.Algebra.BigOperators.Intervals

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Contents -/

/-- The kernel's arithmetic, row by row. -/
def bfA (X : Arr (F .f32)) : Arr (F .bf16) := fun r l => FloatOps.truncf .bf16 bitsLt_bf16_f32 (X r l)
/-- A family widened. -/
def exA (X : Arr (F .bf16)) : Arr (F .f32) := fun r l => FloatOps.extf .f32 bitsLt_bf16_f32 (X r l)
/-- Two families added, row by row. -/
def addA (X Y : Arr (F .f32)) : Arr (F .f32) := fun r l => FloatOps.addf (X r l) (Y r l)
/-- Two families multiplied. -/
def mulA (X Y : Arr (F .f32)) : Arr (F .f32) := fun r l => FloatOps.mulf (X r l) (Y r l)
/-- The hyperbolic tangent of a family. -/
def tanhA (X : Arr (F .f32)) : Arr (F .f32) := fun r l => FloatOps.tanh (X r l)
/-- A family's positive part. -/
def relA (X : Arr (F .f32)) : Arr (F .f32) := fun r l => FloatOps.maximumf (X r l) (Scalar.ofBits (F := F) .f32 0x00000000#32 : F .f32)
/-- The epilogue of a family of sums. -/
def epiA (X : Arr (F .f32)) : Arr (F .f32) :=
  addA (mulA (mulA (tanhA X) X) X) (mulA (mulA (relA X) (relA X)) (relA X))

/-- Rows `o …` of `X` placed from row `a`. -/
def sh {α : Type} (X : Arr α) (o a : ℕ) : Arr α := fun r l => X (o + (r - a)) l

/-- A block of a shifted family is the block the shift says. -/
theorem cut_sh {α : Type} (X : Arr α) (o a b k : ℕ) : cut (sh X o a) (a + b) k = cut X (o + b) k := by
  funext j
  unfold cut sh
  congr 1
  omega

/-- An index of the argument. -/
def ix2 (r : ℕ) (l : Fin 1024) : (Sh 2048).Idx := fun a => match a with
  | 0 => (⟨r % 2048, Nat.mod_lt _ (by decide)⟩ : Fin 2048)
  | 1 => (l : Fin 1024)

variable (m : (ℓ : Loc nD τ sig) → Buf (Elt F) ℓ)

/-- The argument's rows on a device. -/
def Xr (c : Dev nD) : Arr (F .f32) := fun r l => xM.view.read (Elt F) (m (xM.view.loc (c : Thread nD τ))) (ix2 r l)

/-- A reduce phase: each device adds what the neighbour along the phase's axis held, narrowed on the way. -/
def phase (i : Fin 6) (j : Fin 3) (A : Dev nD → Arr (F .f32)) (c : Dev nD) : Arr (F .f32) :=
  addA (A c) (exA (bfA (A (nbr c ((part i).ax j)))))

/-- What the accumulators hold before each phase and after the last. -/
def acc (i : Fin 6) : Fin 4 → Dev nD → Arr (F .f32)
  | 0 => Xr m
  | 1 => phase i 0 (Xr m)
  | 2 => phase i 1 (phase i 0 (Xr m))
  | 3 => phase i 2 (phase i 1 (phase i 0 (Xr m)))

/-- A device's results, for the rows it keeps to the end. -/
def res (i : Fin 6) (c : Dev nD) : Arr (F .f32) := epiA (acc m i 3 c)

/-- The device that keeps row `r` of the part to the end. -/
def owner (i : Fin 6) (r : ℕ) : Dev nD :=
  if h : ∃ c : Dev nD, lo (part i) c 3 ≤ r ∧ r < lo (part i) c 3 + (part i).h then h.choose else ⟨0, by decide⟩

/-- Different devices keep rows apart. -/
theorem lo3_apart : ∀ (i : Fin 6) (c c' : Dev nD), c = c' ∨ lo (part i) c 3 + (part i).h ≤ lo (part i) c' 3 ∨ lo (part i) c' 3 + (part i).h ≤ lo (part i) c 3 := by
  decide +kernel

/-- The keeper of a row a device keeps is that device. -/
theorem owner_eq (i : Fin 6) (c : Dev nD) (r : ℕ) (h1 : lo (part i) c 3 ≤ r) (h2 : r < lo (part i) c 3 + (part i).h) : owner i r = c := by
  have h : ∃ c : Dev nD, lo (part i) c 3 ≤ r ∧ r < lo (part i) c 3 + (part i).h := ⟨c, h1, h2⟩
  unfold owner
  rw [dif_pos h]
  have hc := h.choose_spec
  rcases lo3_apart i h.choose c with h' | h' | h'
  · exact h'
  · omega
  · omega

/-- The gathered rows in the narrow format; the result's rows on a device: its own as computed, the others widened. -/
def gat (i : Fin 6) : Arr (F .bf16) := fun r l => bfA (res m i (owner i r)) r l
/-- The part's rows of the result on device `c`: those it kept as computed, the others as they came, widened. -/
def out (i : Fin 6) (c : Dev nD) : Arr (F .f32) := fun r l =>
  if lo (part i) c 3 ≤ r ∧ r < lo (part i) c 3 + (part i).h then res m i c r l else exA (gat m i) r l

/-! ## Cells -/

/-- The axis transfer `s` crosses is phase `phs s`'s. -/
def phs : Fin 6 → Fin 3
  | 0 => 0 | 1 => 1 | 2 => 2 | 3 => 2 | 4 => 1 | 5 => 0

/-- Transfer `s`'s other end. -/
def peer (c : Dev nD) (i s : Fin 6) : Dev nD := nbr c ((part i).ax (phs s))

/-- The other end of a transfer's other end is the device itself. -/
theorem peer_peer (c : Dev nD) (i s : Fin 6) : peer (peer c i s) i s = c := nbr_nbr c _

/-- The rows phase `j` exchanges, and where a reduce phase's arrive. -/
def wd (i : Fin 6) : Fin 3 → ℕ
  | 0 => 4 * (part i).h | 1 => 2 * (part i).h | 2 => (part i).h
/-- The first row in the receive buffer of what phase `j` brings. -/
def ro (i : Fin 6) : Fin 3 → ℕ
  | 0 => 0 | 1 => 4 * (part i).h | 2 => 4 * (part i).h + 2 * (part i).h

/-- A phase exchanges at least one row. -/
theorem wd_pos (i : Fin 6) (j : Fin 3) : 0 < wd i j := by
  fin_cases j
  · exact (part i).p4
  · exact (part i).p2
  · exact (part i).hpos

/-- A cell's name on its device: the barrier's, or an end (the receiver's, if `true`) of a part's transfer. -/
abbrev Cl : Type := Option (Bool × Fin 6 × Fin 6)

/-- The semaphore of a cell: the barrier's, or an end's of a transfer. -/
def semOf : Cl → SemLoc sig
  | none => .reg barS
  | some (false, i, s) => .dma (sS i s)
  | some (true, i, s) => .dma (rS i s)

/-- The name of a semaphore's cell, if it is one. -/
def kindOf : SemLoc sig → Option Cl
  | .reg _ => some none
  | .dma q =>
    if q.val < 36 then some (some (false, ⟨q.val / 6 % 6, Nat.mod_lt _ (by decide)⟩, ⟨q.val % 6, Nat.mod_lt _ (by decide)⟩))
    else if q.val < 72 then some (some (true, ⟨q.val / 6 % 6, Nat.mod_lt _ (by decide)⟩, ⟨q.val % 6, Nat.mod_lt _ (by decide)⟩))
    else none

/-- The semaphore of an end of a transfer is told to be that end's. -/
theorem kind_dma : ∀ (b : Bool) (i s : Fin 6), kindOf (semOf (some (b, i, s))) = some (some (b, i, s)) := by decide +kernel
/-- The semaphore of a cell is told to be that cell's. -/
theorem kind_sem (k : Cl) : kindOf (semOf k) = some k := by
  rcases k with _ | ⟨b, i, s⟩
  · rfl
  · exact kind_dma b i s
/-- The semaphore of a local copy is no cell's. -/
theorem kind_copy : ∀ (i s : Fin 6), kindOf (.dma (cS i s)) = none := by decide +kernel

/-- Different cells have different semaphores. -/
theorem semOf_injective : Function.Injective semOf := fun k k' h =>
  Option.some.inj ((kind_sem k).symm.trans ((congrArg kindOf h).trans (kind_sem k')))

/-- A cell of device `c`. -/
abbrev cell (c : Dev nD) (k : Cl) : GSem nD τ sig := ((c : Thread nD τ), semOf k)

/-! ## Payloads -/

/-- What device `q` lets the neighbour along phase `j`'s axis write: where the reduce rows arrive, and the rows it gets back. -/
def grant (q : Dev nD) (i : Fin 6) (j : Fin 3) : sProp 𝕄 :=
  iprop(ownE q (part i).rb (ro i j) (wd i j) ∗ ownE q gM (sib (part i) q j) (wd i j))

/-- The phase in which the part crosses an axis. -/
def phOf (i : Fin 6) (a : Fin 3) : Fin 3 := if (part i).ax 0 = a then 0 else if (part i).ax 1 = a then 1 else 2

/-- A part crosses its phase's axis in that phase. -/
theorem phOf_ax : ∀ (i : Fin 6) (j : Fin 3), phOf i ((part i).ax j) = j := by decide +kernel

/-- What device `q`'s barrier signal along axis `a` hands over. -/
def barPay (q : Dev nD) (a : Fin 3) : sProp 𝕄 := bigSep Finset.univ fun i : Fin 6 => grant q i (phOf i a)

/-- What a transfer's end hands back or over. -/
def pay (c : Dev nD) : Bool → Fin 6 → Fin 6 → sProp 𝕄
  | false, i, 0 => ownE c (part i).sb 0 (4 * (part i).h)
  | false, i, 1 => ownE c (part i).sb 0 (2 * (part i).h)
  | false, i, 2 => ownE c (part i).sb 0 (part i).h
  | false, i, 3 => own c gM (lo (part i) c 3) (part i).h (gat m i)
  | false, i, 4 => own c gM (lo (part i) c 2) (2 * (part i).h) (gat m i)
  | false, i, 5 => own c gM (lo (part i) c 1) (4 * (part i).h) (gat m i)
  | true, i, 0 => own c (part i).rb 0 (4 * (part i).h) (sh (bfA (acc m i 0 (peer c i 0))) (lo (part i) c 1) 0)
  | true, i, 1 => own c (part i).rb (4 * (part i).h) (2 * (part i).h) (sh (bfA (acc m i 1 (peer c i 1))) (lo (part i) c 2) (4 * (part i).h))
  | true, i, 2 => own c (part i).rb (4 * (part i).h + 2 * (part i).h) (part i).h
      (sh (bfA (acc m i 2 (peer c i 2))) (lo (part i) c 3) (4 * (part i).h + 2 * (part i).h))
  | true, i, 3 => own c gM (sib (part i) c 2) (part i).h (gat m i)
  | true, i, 4 => own c gM (sib (part i) c 1) (2 * (part i).h) (gat m i)
  | true, i, 5 => own c gM (sib (part i) c 0) (4 * (part i).h) (gat m i)

/-- What a barrier signal hands over may be kept in an invariant. -/
instance barPay_storable (q : Dev nD) (a : Fin 3) : BI.Storable (upEmb : UEmb _ 𝕄) (barPay (F := F) q a) := by
  unfold barPay grant; infer_instance
/-- What an end of a transfer brings may be kept in an invariant. -/
instance pay_storable (c : Dev nD) (b : Bool) (i s : Fin 6) : BI.Storable (upEmb : UEmb _ 𝕄) (pay m c b i s) := by
  cases b <;> fin_cases s <;> (dsimp only [pay]; infer_instance)

/-- The credit of a transfer. -/
abbrev crd (i s : Fin 6) : ℕ := cr (wd i (phs s)) .bf16

/-! ## The schedule -/

/-- The contract of every cell, in one round: the barrier has a duty for each axis, an end of a transfer one duty. -/
def Rd : Rounds.Schedule (GSem nD τ sig) (Fin 3) 𝕄 where
  duties g r := if r = 0 ∧ g.1.2 = .tc then (match kindOf g.2 with
    | some none => Finset.univ
    | some (some _) => {0}
    | none => ∅) else ∅
  unitless _ := False
  amount g _ _ := match kindOf g.2 with
    | some (some (_, i, s)) => crd i s
    | _ => 1
  payload g _ d := match kindOf g.2 with
    | some none => barPay (nbr g.1.1 d) d
    | some (some (b, i, s)) => pay m g.1.1 b i s
    | none => iprop(emp)
  amount_pos g _ _ _ := by
    split
    · exact cr_pos (wd_pos _ _) _
    · exact Nat.one_pos

/-- Everything a cell brings may be kept in an invariant. -/
instance Rd_payload_storable (g : GSem nD τ sig) (r : ℕ) (d : Fin 3) : BI.Storable (upEmb : UEmb _ 𝕄) ((Rd (F := F) m).payload g r d) := by
  dsimp only [Rd]
  split <;> infer_instance

section sched
variable (c : Dev nD)

/-- The barrier's duties, one for each axis. -/
theorem duties_bar : (Rd (F := F) m).duties (cell c none) 0 = Finset.univ := by
  dsimp only [Rd]; rw [if_pos ⟨rfl, rfl⟩]; rfl
/-- An end's one duty. -/
theorem duties_x (x) : (Rd (F := F) m).duties (cell c (some x)) 0 = {0} := by
  dsimp only [Rd]; rw [if_pos ⟨rfl, rfl⟩, kind_sem]
/-- It is among the duties. -/
theorem mem_x (x) : (0 : Fin 3) ∈ (Rd (F := F) m).duties (cell c (some x)) 0 := by
  rw [duties_x]; exact Finset.mem_singleton_self _
/-- No duty after the first round. -/
theorem duties_later (g : GSem nD τ sig) : ∀ r, 0 + 1 ≤ r → (Rd (F := F) m).duties g r = ∅ := fun r hr => by
  dsimp only [Rd]; rw [if_neg fun h => by omega]

/-- A barrier signal adds one. -/
theorem amount_bar (d : Fin 3) : (Rd (F := F) m).amount (cell c none) 0 d = 1 := rfl
/-- A transfer adds its credit. -/
theorem amount_x (b i s) (d : Fin 3) : (Rd (F := F) m).amount (cell c (some (b, i, s))) 0 d = crd i s := by
  dsimp only [Rd]; rw [kind_sem]
/-- What the signal along an axis brings. -/
theorem payload_bar (d : Fin 3) : (Rd (F := F) m).payload (cell c none) 0 d = barPay (nbr c d) d := rfl
/-- What an end of a transfer brings. -/
theorem payload_x (b i s) (d : Fin 3) : (Rd (F := F) m).payload (cell c (some (b, i, s))) 0 d = pay m c b i s := by
  dsimp only [Rd]; rw [kind_sem]

/-- The barrier is waited for with three. -/
theorem expect_bar : (Rd (F := F) m).expect (cell c none) 0 = 3 := by
  unfold Schedule.expect Schedule.amountOf
  rw [duties_bar, Finset.sum_congr rfl fun d _ => amount_bar m c d]; rfl
/-- An end is waited for with the transfer's credit. -/
theorem expect_x (b i s) : (Rd (F := F) m).expect (cell c (some (b, i, s))) 0 = crd i s := by
  unfold Schedule.expect Schedule.amountOf; rw [duties_x, Finset.sum_singleton, amount_x]

/-- All that the barrier brings: the three neighbours' grants. -/
theorem rest_bar : bigSep ((Rd (F := F) m).duties (cell c none) 0 \ ∅) (fun d => (Rd (F := F) m).payload (cell c none) 0 d)
    = bigSep Finset.univ fun a : Fin 3 => barPay (nbr c a) a := by
  rw [Finset.sdiff_empty, duties_bar]; rfl
/-- All that an end of a transfer brings. -/
theorem rest_x (b i s) : bigSep ((Rd (F := F) m).duties (cell c (some (b, i, s))) 0 \ ∅) (fun d => (Rd (F := F) m).payload (cell c (some (b, i, s))) 0 d) = pay m c b i s := by
  rw [Finset.sdiff_empty, duties_x, bigSep_singleton, payload_x]

end sched

/-! ## What is owed, and the levels -/

/-- Transfer number `t`, in the order they start: transfer `t / 6` of part `t % 6`. -/
def tal (c : Dev nD) (t : ℕ) : CellTallies nD τ sig Unit :=
  let i : Fin 6 := ⟨t % 6, Nat.mod_lt _ (by decide)⟩
  let s : Fin 6 := ⟨t / 6 % 6, Nat.mod_lt _ (by decide)⟩
  tallyAt (cell (peer c i s) (some (true, i, s))) () (crd i s)

/-- What device `c` owes once it has started the first `n` transfers. -/
def owed (c : Dev nD) (n : ℕ) : CellTallies nD τ sig Unit := ∑ t ∈ Finset.Ico n 36, tal c t

/-- Starting a transfer pays one of the things owed. -/
theorem owed_step (c : Dev nD) (i s : Fin 6) :
    owed c (6 * s + i) = owed c (6 * s + i + 1) + tallyAt (cell (peer c i s) (some (true, i, s))) () (crd i s) := by
  unfold owed
  rw [Finset.sum_eq_sum_Ico_succ_bot (show 6 * (s : ℕ) + i < 36 by omega), add_comm]
  congr 1
  unfold tal
  have h1 : (⟨(6 * (s : ℕ) + i) % 6, Nat.mod_lt _ (by decide)⟩ : Fin 6) = i := Fin.ext (by show (6 * (s : ℕ) + i) % 6 = i; omega)
  have h2 : (⟨(6 * (s : ℕ) + i) / 6 % 6, Nat.mod_lt _ (by decide)⟩ : Fin 6) = s := Fin.ext (by show (6 * (s : ℕ) + i) / 6 % 6 = s; omega)
  simp only [h1, h2]

/-- After the last transfer nothing is owed. -/
theorem owed_end (c : Dev nD) : owed c 36 = 0 := by unfold owed; rw [Finset.Ico_self, Finset.sum_empty]

/-- At launch: every transfer, and a signal along each axis. -/
def O₀ (c : Dev nD) : CellTallies nD τ sig Unit :=
  owed c 0 + tallyAt (cell (nbr c 2) none) () 1 + tallyAt (cell (nbr c 1) none) () 1 + tallyAt (cell (nbr c 0) none) () 1

/-- The tensor cores' cells have one level each. -/
def L (g : GSem nD τ sig) : Finset Unit := if g.1.2 = .tc then {()} else ∅
/-- The levels: local copies and sends lowest, then the barrier, then the arrivals in the order of their transfers. -/
def lv (g : GSem nD τ sig) (_ : Unit) : ℕ := match kindOf g.2 with
  | some none => 1
  | some (some (true, _, s)) => s + 2
  | _ => 0

/-- Other cells have none. -/
theorem L_of_ne (g : GSem nD τ sig) (h : g.1.2 ≠ .tc) : L g = ∅ := if_neg h
/-- A tensor core's cell has the one. -/
theorem L_tc (c : Dev nD) (sm : SemLoc sig) : L ((c : Thread nD τ), sm) = {()} := if_pos rfl

/-- What is still owed are arrivals of transfers not started yet. -/
theorem owed_pos {c : Dev nD} {n : ℕ} {g : GSem nD τ sig} {u : Unit} (h : 0 < owed c n g u) :
    ∃ t, n ≤ t ∧ t < 36 ∧ ∃ c' : Dev nD, ∃ i s : Fin 6, (s : ℕ) = t / 6 ∧ g = cell c' (some (true, i, s)) := by
  unfold owed at h
  rw [Finset.sum_apply, Finsupp.finset_sum_apply] at h
  obtain ⟨t, ht, hp⟩ := Finset.exists_ne_zero_of_sum_ne_zero (Nat.pos_iff_ne_zero.mp h)
  have ht := Finset.mem_Ico.mp ht
  unfold tal at hp
  rw [tallyAt_apply] at hp
  refine ⟨t, ht.1, ht.2, peer c ⟨t % 6, Nat.mod_lt _ (by decide)⟩ ⟨t / 6 % 6, Nat.mod_lt _ (by decide)⟩, ⟨t % 6, Nat.mod_lt _ (by decide)⟩, ⟨t / 6 % 6, Nat.mod_lt _ (by decide)⟩, ?_, ?_⟩
  · show t / 6 % 6 = t / 6
    omega
  · exact (not_not.mp fun hn => hp (if_neg hn)).1

omit [FloatOps F] in
/-- A wait is allowed below the levels of what is owed. -/
theorem mayWait (c : Dev nD) (sm : SemLoc sig) (n : ℕ) (h : lv ((c : Thread nD τ), sm) () < n / 6 + 2) :
    (levAts L lv : sProp 𝕄) ⊢ MayWait (c : Thread nD τ) sm () (owed c n) := by
  refine MayOwe.of_cut (L := L) (lev := lv) (n / 6 + 1) (fun p hp => by rw [Finset.mem_singleton.mp hp, L_tc]; exact Finset.mem_singleton_self _)
    (fun g u hg => ?_) (fun p hp => by rw [Finset.mem_singleton.mp hp]; exact Nat.le_of_lt_succ h) (fun g u hg => ?_)
  · obtain ⟨t, h1, h2, c', i, s, hs, rfl⟩ := owed_pos hg
    rw [L_tc]; exact Finset.mem_singleton_self _
  · obtain ⟨t, h1, h2, c', i, s, hs, rfl⟩ := owed_pos hg
    show n / 6 + 1 < lv _ _
    unfold lv
    rw [kind_sem]
    show n / 6 + 1 < (s : ℕ) + 2
    rw [hs]
    have := Nat.div_le_div_right (c := 6) h1
    omega

/-! ## The rules of a transfer -/

/-- The cells' records, shared by all the devices: invariants, and that the round is open. -/
def records (κ : Dev nD × Cl → ℕ) : sProp 𝕄 :=
  iprop((bigSep Finset.univ fun x : Dev nD × Cl => cellInv ER (Rd m) (κ x) (cell x.1 x.2))
    ∗ bigSep Finset.univ fun x : Dev nD × Cl => reached ER (cell x.1 x.2) 0)

/-- The records may be used again and again. -/
instance records_persistent (κ : Dev nD × Cl → ℕ) : BI.Persistent (records m κ) := by unfold records; infer_instance

/-- What every step of the body may use. -/
def Ctx (κ : Dev nD × Cl → ℕ) : sProp 𝕄 := iprop(records m κ ∗ levAts L lv)

/-- So may all that every step uses. -/
instance Ctx_persistent (κ : Dev nD × Cl → ℕ) : BI.Persistent (Ctx m κ) := by unfold Ctx; infer_instance

section rules
variable (κ : Dev nD × Cl → ℕ) (c : Dev nD)

/-- One member out of a family. -/
theorem bsElim {ι : Type} [DecidableEq ι] [Fintype ι] (Φ : ι → sProp 𝕄) (x : ι) : bigSep Finset.univ Φ ⊢ Φ x := bigSep_elim (Finset.mem_univ x)

/-- A cell's invariant is among the records; -/
theorem ctx_inv (x : Dev nD × Cl) : Ctx m κ ⊢ cellInv ER (Rd m) (κ x) (cell x.1 x.2) := by
  unfold Ctx records
  iintro ⟨⟨H, -⟩, -⟩
  iapply (bsElim (fun x : Dev nD × Cl => (cellInv ER (Rd m) (κ x) (cell x.1 x.2) : sProp 𝕄)) x) $$ H

/-- and that its round is open. -/
theorem ctx_reached (x : Dev nD × Cl) : Ctx m κ ⊢ reached ER (cell x.1 x.2) 0 := by
  unfold Ctx records
  iintro ⟨⟨-, H⟩, -⟩
  iapply (bsElim (fun x : Dev nD × Cl => (reached ER (cell x.1 x.2) 0 : sProp 𝕄)) x) $$ H

/-- A device may wait for a semaphore of a level below all that it owes. -/
theorem ctx_mayWait (sm : SemLoc sig) (n : ℕ) (h : lv ((c : Thread nD τ), sm) () < n / 6 + 2) :
    Ctx m κ ⊢ MayWait (c : Thread nD τ) sm () (owed c n) := by
  unfold Ctx
  iintro ⟨-, H⟩
  iapply (mayWait c sm n h) $$ H

/-- A local copy's semaphore has the lowest level. -/
theorem lv_copy (i j : Fin 6) : lv ((c : Thread nD τ), .dma (cS i j)) () = 0 := by unfold lv; rw [kind_copy]

/-- What device `c` holds of transfer `s` of part `i` before it starts it: the duties of both ends, its own two
    positions, and the credit it waits for the arrival with. -/
def Lk (c : Dev nD) (s i : Fin 6) : sProp 𝕄 :=
  iprop(dutyTok ER (cell c (some (false, i, s))) 0 0 ∗ dutyTok ER (cell (peer c i s) (some (true, i, s))) 0 0
    ∗ atPos ER (cell c (some (false, i, s))) 0 ∅ 0 ∗ atPos ER (cell c (some (true, i, s))) 0 ∅ 0
    ∗ cred (tallyAt (cell c (some (true, i, s))) () (crd i s)))

/-- An end's position, and the credit to wait with. -/
def En (c : Dev nD) (b : Bool) (s i : Fin 6) : sProp 𝕄 :=
  iprop(atPos ER (cell c (some (b, i, s))) 0 ∅ 0 ∗ cred (tallyAt (cell c (some (b, i, s))) () (crd i s)))

/-- Both ends awaited: the two counters are the device's again. -/
def Dn (c : Dev nD) (s i : Fin 6) : sProp 𝕄 :=
  iprop(semVal (cell c (some (false, i, s))) 0 ∗ semVal (cell c (some (true, i, s))) 0)

/-- A transfer started. -/
theorem wp_rcp (i s : Fin 6) (c' : Dev nD) (hc : c' = peer c i s) {n n' k : ℕ} (M : Memref sig .tc .vmem (Sh n) .bf16) (hM : M.IsWhole)
    (M' : Memref sig .tc .vmem (Sh n') .bf16) (hM' : M'.IsWhole) (o o' : ℕ) (h : Fits n o k) (h' : Fits n' o' k) (he : 2 ∣ k) (σ ρ : DmaSem sig)
    (hσ : σ = sS i s) (hρ : ρ = rS i s) (hk : k = wd i (phs s)) (v : (Sh k).Idx → F .bf16)
    (h1 : owns (c : Thread nD τ) (sl M o k h.1) fullShare v ⊢ pay m c false i s)
    (h2 : owns (c' : Thread nD τ) (sl M' o' k h'.1) fullShare v ⊢ pay m c' true i s)
    (t : ℕ) (ht : t = 6 * s + i) (Q : PUnit → sProp 𝕄) :
    iprop(Ctx m κ ∗ owns (c : Thread nD τ) (sl M o k h.1) fullShare v ∗ ownsE c' (sl M' o' k h'.1) ∗ Lk c s i ∗ OW c (owed c t)
        ∗ (iprop(En c false s i ∗ En c true s i ∗ OW c (owed c (t + 1))) -∗ Q ⟨⟩))
      ⊢ WP c (rcp c' M hM M' hM' o o' h h' he σ ρ) Q := by
  subst hc hσ hρ hk ht
  unfold OW ownsE Lk En
  unfold owns
  unfold owns at h1 h2
  have hp1 (fs) (hfs : (sl M o _ h.1).view.read (Elt F) fs = v) :
      ((sl M o _ h.1).view.loc (c : Thread nD τ) ↦[(sl M o _ h.1).view.set]{fullShare} fs) ⊢ (Rd m).payload (cell c (some (false, i, s))) 0 0 := by
    refine BIBase.Entails.trans ?_ (h1.trans (Entails.of_eq (payload_x m c false i s 0).symm))
    iintro H
    iexists fs
    isplitr
    · ipureintro; exact hfs
    · iexact H
  have hp2 (fd fs) (hfs : (sl M o _ h.1).view.read (Elt F) fs = v) :
      ((sl M' o' _ h'.1).view.loc (peer c i s : Thread nD τ) ↦[(sl M' o' _ h'.1).view.set]{fullShare}
          (sl M' o' _ h'.1).view.write (Elt F) fd ((sl M o _ h.1).view.read (Elt F) fs) Finset.univ)
        ⊢ (Rd m).payload (cell (peer c i s) (some (true, i, s))) 0 0 := by
    refine BIBase.Entails.trans ?_ (h2.trans (Entails.of_eq (payload_x m (peer c i s) true i s 0).symm))
    iintro H
    iexists ((sl M' o' _ h'.1).view.write (Elt F) fd ((sl M o _ h.1).view.read (Elt F) fs) Finset.univ)
    isplitr
    · ipureintro; exact (View.read_write_univ _ _).trans hfs
    · iexact H
  iintro ⟨#HC, ⟨%fs, %hfs, Hs⟩, ⟨%w, %fd, %hfd, Hd⟩, ⟨Ht1, Ht2, Ha1, Ha2, Hc2⟩, ⟨%W, HO⟩, HQ⟩
  rw [owed_step]
  iapply (Rounds.wp_send_pointsTo 𝒱₀ ER (Rd m) (c : Thread nD τ) none (κ₁ := κ (c, some (false, i, s))) (κ₂ := κ (peer c i s, some (true, i, s)))
    (c' := (peer c i s : Thread nD τ)) (src := sl M o _ h.1) (dst := sl M' o' _ h'.1) (sS := .dma (sS i s)) (sem := .dma (rS i s))
    (r₁ := 0) (r₂ := 0) (d₁ := 0) (d₂ := 0) (fs := fs) (fd := fd)
    (mem_x m c (false, i, s)) (mem_x m (peer c i s) (true, i, s))
    () () (crd i s) rfl (amount_x m c false i s 0) (amount_x m (peer c i s) true i s 0) (owed c (6 * s + i + 1)) rfl
    (W := W) (hp1 fs hfs) (hp2 fd fs hfs)) $$ [Hs Hd HO Ht1 Ht2]
  · isplitr; · iapply (ctx_inv m κ (c, some (false, i, s))); iexact HC
    isplitr; · iapply (ctx_inv m κ (peer c i s, some (true, i, s))); iexact HC
    isplitl [Hs]; · iexact Hs
    isplitl [Hd]; · iexact Hd
    isplitl [HO]; · iexact HO
    isplitl [Ht1]; · iexact Ht1
    isplitr; · iapply (ctx_reached m κ (c, some (false, i, s))); iexact HC
    isplitl [Ht2]; · iexact Ht2
    iapply (ctx_reached m κ (peer c i s, some (true, i, s))); iexact HC
  · iintro ⟨Hc1, HO⟩
    rw [wp_ret]
    imodintro
    iapply HQ
    isplitl [Ha1 Hc1]
    · isplitl [Ha1]; · iexact Ha1
      iexact Hc1
    isplitl [Ha2 Hc2]
    · isplitl [Ha2] <;> iassumption
    iexists W
    iexact HO
/-- An end awaited. -/
theorem wp_rwt (b : Bool) (i s : Fin 6) {n n' k : ℕ} (M : Memref sig .tc .vmem (Sh n) .bf16) (hM : M.IsWhole)
    (M' : Memref sig .tc .vmem (Sh n') .bf16) (hM' : M'.IsWhole) (o o' : ℕ) (h : Fits n o k) (h' : Fits n' o' k) (he : 2 ∣ k) (σ : DmaSem sig)
    (hσ : SemLoc.dma σ = semOf (some (b, i, s))) (hk : k = wd i (phs s)) (t : ℕ) (ht : 6 * (s + 1) ≤ t) (Q : PUnit → sProp 𝕄) :
    iprop(Ctx m κ ∗ En c b s i ∗ OW c (owed c t) ∗ (iprop(semVal (cell c (some (b, i, s))) 0 ∗ pay m c b i s ∗ OW c (owed c t)) -∗ Q ⟨⟩))
      ⊢ WP c (rwt M hM M' hM' o o' h h' he σ) Q := by
  subst hk
  unfold OW En
  iintro ⟨#HC, ⟨Ha, Hc⟩, ⟨%W, HO⟩, HQ⟩
  unfold cell
  rw [← hσ]
  iapply (Rounds.wp_wait_rest_token 𝒱₀ ER (Rd m) (c : Thread nD τ) none (κ := κ (c, some (b, i, s)))
      (wpE_waitDma2_eq 𝒱₀ (c : Thread nD τ) none Set.univ) (Set.mem_univ _) () (O := owed c t) (W := W) (R := 0) (m := 0) (T := ∅)
      (by rw [Nat.zero_add, hσ]; exact (expect_x m c b i s).symm)) $$ [Ha Hc HO]
  · isplitr; · rw [hσ]; iapply (ctx_inv m κ (c, some (b, i, s))); iexact HC
    isplitl [Hc]; · iexact Hc
    isplitl [HO]; · iexact HO
    isplitr
    · iapply (ctx_mayWait m κ c (.dma σ) t (by
        rw [hσ]
        unfold lv
        rw [kind_sem]
        cases b
        · exact Nat.succ_pos _
        · show (s : ℕ) + 2 < _
          omega))
      iexact HC
    · iexact Ha
  iintro ⟨HO, Ha, -, Hp⟩
  rw [wp_ret, hσ]
  ihave Hp' := (Entails.of_eq (rest_x m c b i s)) $$ Hp
  imod (Rounds.cell_close ER (Rd m) (Set.mem_univ (κ (c, some (b, i, s)))) (fun h => h) (R := 0 + 1) (duties_later m (cell c (some (b, i, s))))) $$ [Ha] with Hz
  · isplitr; · iapply (ctx_inv m κ (c, some (b, i, s))); iexact HC
    iexact Ha
  imodintro
  iapply HQ
  isplitl [Hz]; · iexact Hz
  isplitl [Hp']; · iexact Hp'
  iexists _
  iexact HO

end rules

end Cert.AllReduce

end
-- ==== Proof.Steps.lean ====
/-
The kernel's steps, one part at a time: what each takes and what it leaves.
-/
module

public import proofs.«01_k».proof.Proof.Schedule

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Rows, again -/

section rows
variable {sp : Space} {n : ℕ} {e : EltTy} (c : Dev nD) (M : Memref sig .tc sp (Sh n) e)

omit [FloatOps F] in
/-- Some of the rows owned, and the way back. -/
theorem own_sub {O K o k : ℕ} (h1 : O ≤ o) (h2 : o + k ≤ O + K) (X : Arr (Elt F e)) :
    own (F := F) c M O K X ⊢ iprop(own c M o k X ∗ (own c M o k X -∗ own c M O K X)) := by
  obtain ⟨a, rfl⟩ := Nat.exists_eq_add_of_le h1
  obtain ⟨b, hb⟩ := Nat.exists_eq_add_of_le h2
  obtain rfl : K = a + (k + b) := by omega
  iintro H
  ihave H' := own_split c M O a (k + b) X $$ H
  icases H' with ⟨Ha, H⟩
  ihave H' := own_split c M (O + a) k b X $$ H
  icases H' with ⟨Hk, Hb⟩
  isplitl [Hk]; · iexact Hk
  iintro Hk
  iapply own_join
  isplitl [Ha]; · iexact Ha
  iapply own_join
  isplitl [Hk] <;> iassumption

omit [FloatOps F] in
/-- Rows owned at any contents are a slice owned at any contents; -/
theorem ownE_to_sl (o k : ℕ) (h : o + k ≤ n) : ownE (F := F) c M o k ⊢ ownsE c (sl M o k h) := by
  unfold ownE ownsE
  iintro ⟨%X, H⟩
  iexists (cut X o k)
  iapply (own_to_sl c M o k h X) $$ H

omit [FloatOps F] in
/-- and all the rows the whole buffer. -/
theorem ownE_to_all : ownE (F := F) c M 0 n ⊢ ownsE c M := by
  unfold ownE ownsE
  iintro ⟨%X, H⟩
  iexists (cut X 0 n)
  iapply (own_to_all c M X) $$ H

omit [FloatOps F] in
/-- Rows taken from the front and put back. -/
theorem ownE_front {k K : ℕ} (h : k ≤ K) : ownE (F := F) c M 0 K ⊢ iprop(ownE c M 0 k ∗ ownE c M k (K - k)) := by
  obtain ⟨b, rfl⟩ := Nat.exists_eq_add_of_le h
  have := ownE_split (F := F) c M 0 k b
  rw [Nat.zero_add] at this
  rw [Nat.add_sub_cancel_left]
  exact this

omit [FloatOps F] in
/-- Rows taken from the front are put back. -/
theorem ownE_back {k K : ℕ} (h : k ≤ K) : iprop(ownE (F := F) c M 0 k ∗ ownE c M k (K - k)) ⊢ ownE c M 0 K := by
  obtain ⟨b, rfl⟩ := Nat.exists_eq_add_of_le h
  have := ownE_join (F := F) c M 0 k b
  rw [Nat.zero_add] at this
  rw [Nat.add_sub_cancel_left]
  exact this

/-- A load of some of the rows owned. -/
theorem wp_ld_sub {n : ℕ} {e : EltTy} (M : Memref sig .tc .vmem (Sh n) e) (O K o k : ℕ) (h1 : O ≤ o) (h2 : o + k ≤ O + K) (h : o + k ≤ n)
    (hl : M.view.LoadsAt (rows o k h).toLoadRect) (X : Arr (Elt F e)) (Q : ((Sh k).Idx → Elt F e) → sProp 𝕄) :
    iprop(own c M O K X ∗ (own c M O K X -∗ Q (cut X o k))) ⊢ WP c (Prog.lift (.load M (rows o k h).toLoadRect hl)) Q := by
  iintro ⟨H, HQ⟩
  ihave H' := own_sub c M h1 h2 X $$ H
  icases H' with ⟨H, Hb⟩
  iapply (wp_ld c M o k h hl X)
  isplitl [H]; · iexact H
  iintro H
  iapply HQ
  iapply Hb
  iexact H

/-- A load of rows at any contents. -/
theorem wp_ld_any {n : ℕ} {e : EltTy} (M : Memref sig .tc .vmem (Sh n) e) (o k : ℕ) (h : o + k ≤ n)
    (hl : M.view.LoadsAt (rows o k h).toLoadRect) (Q : ((Sh k).Idx → Elt F e) → sProp 𝕄) :
    iprop(ownE c M o k ∗ (∀ v, ownE c M o k -∗ Q v)) ⊢ WP c (Prog.lift (.load M (rows o k h).toLoadRect hl)) Q := by
  unfold ownE
  iintro ⟨⟨%X, H⟩, HQ⟩
  iapply (wp_ld c M o k h hl X)
  isplitl [H]; · iexact H
  iintro H
  iapply HQ
  iexists X
  iexact H

end rows

/-! ## Values -/

/-- A block of a family, narrowed, is the block of the family narrowed. -/
theorem nar_cut (X : Arr (F .f32)) (o k : ℕ) : nar (cut X o k : Vec F (Sh k) .f32) = cut (bfA X) o k := by
  unfold nar; rw [shapeCast_self]; rfl
/-- The same for widening, -/
theorem wid_cut (X : Arr (F .bf16)) (o k : ℕ) : wid (cut X o k : Vec F (Sh k) .bf16) = cut (exA X) o k := rfl
/-- for the sum with what arrived, -/
theorem sumv_cut (X : Arr (F .f32)) (Y : Arr (F .bf16)) (o k : ℕ) :
    sumv (cut X o k : Vec F (Sh k) .f32) (cut Y o k : Vec F (Sh k) .bf16) = cut (addA X (exA Y)) o k := rfl
/-- and for the epilogue. -/
theorem epi_cut (X : Arr (F .f32)) (o k : ℕ) : epi (cut X o k : FVec F (Sh k) .f32) = cut (epiA X) o k := rfl

/-- The first rows of a shifted family. -/
theorem cut_sh0 {α : Type} (X : Arr α) (o a k : ℕ) : cut (sh X o a) a k = cut X o k := cut_sh X o a 0 k

/-! ## Numbers -/

section numbers
variable (i : Fin 6) (c : Dev nD)
/-- What the first phase gives away is what the neighbour keeps; -/
theorem lo_peer0 : lo (part i) (peer c i 0) 1 = sib (part i) c 0 := by revert i c; decide +kernel
/-- so for the second phase -/
theorem lo_peer1 : lo (part i) (peer c i 1) 2 = sib (part i) c 1 := by revert i c; decide +kernel
/-- and the third. -/
theorem lo_peer2 : lo (part i) (peer c i 2) 3 = sib (part i) c 2 := by revert i c; decide +kernel
/-- What the first gather phase sends is what the neighbour lacks; -/
theorem sib_peer3 : sib (part i) (peer c i 3) 2 = lo (part i) c 3 := by revert i c; decide +kernel
/-- so for the second -/
theorem sib_peer4 : sib (part i) (peer c i 4) 1 = lo (part i) c 2 := by revert i c; decide +kernel
/-- and the last. -/
theorem sib_peer5 : sib (part i) (peer c i 5) 0 = lo (part i) c 1 := by revert i c; decide +kernel
end numbers

/-! ## Blocks of the steps -/

section blocks
variable (m : (ℓ : Loc nD τ sig) → Buf (Elt F) ℓ) (κ : Dev nD × Cl → ℕ) (c : Dev nD) (i : Fin 6)

/-- The argument's two copies, under way. -/
def FlA : sProp 𝕄 := Fl c (cS (part i).ix 0) (4 * (part i).h)
  iprop(own c (part i).ac 0 (4 * (part i).h) (sh (acc m i 0 c) (lo (part i) c 1) 0) ∗ own c xM (lo (part i) c 1) (4 * (part i).h) (Xr m c))
/-- The copy of the rows the first phase sends, under way. -/
def FlS : sProp 𝕄 := Fl c (cS (part i).ix 2) (4 * (part i).h)
  iprop(own c (part i).st 0 (4 * (part i).h) (sh (acc m i 0 c) (sib (part i) c 0) 0) ∗ own c xM (sib (part i) c 0) (4 * (part i).h) (Xr m c))

/-- The two loads of the argument's rows start; their ends are lent to them. -/
theorem wp_startP (k s : ℕ) (hk : Fits 2048 k (4 * (part i).h)) (hs : Fits 2048 s (4 * (part i).h)) (ek : k = lo (part i) c 1) (es : s = sib (part i) c 0) (Q : PUnit → sProp 𝕄) :
    iprop(own c xM (lo (part i) c 1) (4 * (part i).h) (Xr m c) ∗ own c xM (sib (part i) c 0) (4 * (part i).h) (Xr m c)
        ∗ ownE c (part i).ac 0 (4 * (part i).h) ∗ ownE c (part i).st 0 (4 * (part i).h)
        ∗ semVal ((c : Thread nD τ), .dma (cS (part i).ix 0)) 0 ∗ semVal ((c : Thread nD τ), .dma (cS (part i).ix 2)) 0
        ∗ (iprop(FlA m c i ∗ FlS m c i) -∗ Q ⟨⟩))
      ⊢ WP c (startP (part i) k s hk hs) Q := by
  subst ek es
  unfold startP FlA FlS
  iintro ⟨Hx1, Hx0, Hac, Hst, Hc0, Hc2, HQ⟩
  iapply wpBind
  iapply (wp_cpy c (part i).p4 (sl xM _ _ hk.1) (sl (part i).ac 0 _ (fits0 (le_refl _)).1) (cS (part i).ix 0) _ (cut (Xr m c) (lo (part i) c 1) (4 * (part i).h)) _ (sep_mono
      (by rw [← cut_sh0 (Xr m c) _ 0]; exact own_of_sl c (part i).ac 0 _ _ (sh (acc m i 0 c) (lo (part i) c 1) 0)) (own_of_sl c xM _ _ _ _)))
  isplitl [Hx1]; · iapply (own_to_sl c xM _ _ hk.1 _) $$ Hx1
  isplitl [Hac]; · iapply (ownE_to_sl c (part i).ac 0 _ _) $$ Hac
  isplitl [Hc0]; · iexact Hc0
  iintro HA
  iapply (wp_cpy c (part i).p4 (sl xM _ _ hs.1) (part i).st (cS (part i).ix 2) _ (cut (Xr m c) (sib (part i) c 0) (4 * (part i).h)) _ (sep_mono
      (by rw [← cut_sh0 (Xr m c) _ 0]; exact own_of_all c (part i).st (sh (acc m i 0 c) (sib (part i) c 0) 0)) (own_of_sl c xM _ _ _ _)))
  isplitl [Hx0]; · iapply (own_to_sl c xM _ _ hs.1 _) $$ Hx0
  isplitl [Hst]; · iapply (ownE_to_all c (part i).st) $$ Hst
  isplitl [Hc2]; · iexact Hc2
  iintro HS
  iapply HQ
  isplitl [HA] <;> iassumption

/-- Rows of a wide buffer narrowed into the send buffer and sent. -/
theorem wp_narrowSend (s : Fin 6) (c' : Dev nD) (hc : c' = peer c i s) (A : Memref sig .tc .vmem (Sh (4 * (part i).h)) .f32) (O K o o' k : ℕ)
    (h : Fits (4 * (part i).h) o k) (h' : Fits (7 * (part i).h) o' k) (hk : 0 < k) (he : 2 ∣ k) (hl : k ≤ 4 * (part i).h)
    (h1 : O ≤ o) (h2 : o + k ≤ O + K) (hw : k = wd i (phs s)) (X Z : Arr (F .f32)) (b : ℕ) (hv : cut X o k = cut Z b k)
    (hp1 : ownE c (part i).sb 0 k ⊢ pay m c false i s) (hp2 : own c' (part i).rb o' k (sh (bfA Z) b o') ⊢ pay m c' true i s)
    (t : ℕ) (ht : t = 6 * s + i) (Q : PUnit → sProp 𝕄) :
    iprop(Ctx m κ ∗ own c A O K X ∗ ownE c (part i).sb 0 (4 * (part i).h) ∗ ownE c' (part i).rb o' k ∗ Lk c s i ∗ OW c (owed c t)
        ∗ (iprop(own c A O K X ∗ ownE c (part i).sb k (4 * (part i).h - k) ∗ En c false s i ∗ En c true s i ∗ OW c (owed c (t + 1))) -∗ Q ⟨⟩))
      ⊢ WP c (do
          let v ← ldF A o k h.1 hk
          let _ ← ldB (part i).sb 0 k (fits0 hl).1 hk
          svB (part i).sb (part i).hsb 0 k (fits0 hl) hk he (nar v)
          rcp c' (part i).sb (part i).hsb (part i).rb (part i).hrb 0 o' (fits0 hl) h' he (sS (part i).ix s) (rS (part i).ix s)) Q := by
  iintro ⟨#HC, HA, Hsb, Hrb, HL, HO, HQ⟩
  iapply wpBind
  iapply (wp_ld_sub c A O K o k h1 h2 h.1 _ X)
  isplitl [HA]; · iexact HA
  iintro HA
  iapply wpBind
  ihave Hsb' := (ownE_front c (part i).sb hl) $$ Hsb
  icases Hsb' with ⟨Hsb, Hsr⟩
  iapply (wp_ld_any c (part i).sb 0 k (fits0 hl).1 _)
  isplitl [Hsb]; · iexact Hsb
  iintro %v Hsb
  iapply wpBind
  iapply (wp_sv c (part i).sb 0 k (fits0 hl).1 _ _ (sh (bfA Z) b 0) (by rw [hv, cut_sh0]; exact nar_cut Z b k))
  isplitl [Hsb]; · iexact Hsb
  iintro Hsb
  iapply (wp_rcp m κ c i s c' hc (part i).sb (part i).hsb (part i).rb (part i).hrb 0 o' (fits0 hl) h' he _ _ (congrArg (sS · s) (part_ix i)) (congrArg (rS · s) (part_ix i)) hw
    (cut (bfA Z) b k) ?_ ?_ t ht)
  rotate_left 2
  · isplitr; · iexact HC
    isplitl [Hsb]
    · rw [← cut_sh0 (bfA Z) b 0]
      iapply (own_to_sl c (part i).sb 0 k _ _) $$ Hsb
    isplitl [Hrb]; · iapply (ownE_to_sl c' (part i).rb o' k _) $$ Hrb
    isplitl [HL]; · iexact HL
    isplitl [HO]; · iexact HO
    iintro ⟨H1, H2, HO⟩
    iapply HQ
    isplitl [HA]; · iexact HA
    isplitl [Hsr]; · iexact Hsr
    isplitl [H1]; · iexact H1
    isplitl [H2] <;> iassumption
  · rw [← cut_sh0 (bfA Z) b 0]
    exact ((own_of_sl c (part i).sb 0 k _ _).trans (ownE_intro c _ _ _ _)).trans hp1
  · rw [← cut_sh0 (bfA Z) b o']
    exact (own_of_sl c' (part i).rb o' k _ _).trans hp2

/-- The first phase's rows sent. -/
theorem wp_sendP (c' : Dev nD) (hc : c' = peer c i 0) (s : ℕ) (hs : Fits 2048 s (4 * (part i).h)) (Q : PUnit → sProp 𝕄) :
    iprop(Ctx m κ ∗ FlS m c i ∗ ownE c (part i).sb 0 (4 * (part i).h) ∗ ownE c' (part i).rb 0 (4 * (part i).h) ∗ Lk c 0 i ∗ OW c (owed c (6 * (0 : Fin 6) + i))
        ∗ (iprop(own c xM (sib (part i) c 0) (4 * (part i).h) (Xr m c) ∗ ownE c (part i).st 0 (4 * (part i).h) ∗ semVal ((c : Thread nD τ), .dma (cS (part i).ix 2)) 0
            ∗ ownE c (part i).sb (4 * (part i).h) (4 * (part i).h - 4 * (part i).h) ∗ En c false 0 i ∗ En c true 0 i ∗ OW c (owed c (6 * (0 : Fin 6) + i + 1))) -∗ Q ⟨⟩))
      ⊢ WP c (sendP (part i) c' s hs) Q := by
  unfold sendP FlS
  iintro ⟨#HC, HF, Hsb, Hrb, HL, HO, HQ⟩
  iapply wpBind
  iapply (wp_cwt c _ (part i).st (cS (part i).ix 2) _ (owed c (6 * (0 : Fin 6) + i)))
  isplitl [HF]; · iexact HF
  isplitl [HO]; · iexact HO
  isplitr
  · iapply (ctx_mayWait m κ c _ _ (by rw [lv_copy]; exact Nat.succ_pos _)); iexact HC
  iintro ⟨⟨Hst, Hx⟩, Hv, HO⟩
  iapply (wp_narrowSend m κ c i 0 c' hc (part i).st 0 (4 * (part i).h) 0 0 (4 * (part i).h) (fits0 (le_refl _)) (fits_rb0 i) (part i).p4 (part i).e4 (le_refl _) (le_refl _) (by omega) rfl
    _ (acc m i 0 c) (sib (part i) c 0) (cut_sh0 _ _ 0 _) (Entails.of_eq rfl)
    (Entails.of_eq (by subst hc; rw [← lo_peer0]; dsimp only [pay]; rw [peer_peer])) _ rfl)
  isplitr; · iexact HC
  isplitl [Hst]; · iexact Hst
  isplitl [Hsb]; · iexact Hsb
  isplitl [Hrb]; · iexact Hrb
  isplitl [HL]; · iexact HL
  isplitl [HO]; · iexact HO
  iintro ⟨Hst, Hsr, H1, H2, HO⟩
  iapply HQ
  isplitl [Hx]; · iexact Hx
  isplitl [Hst]; · iapply (ownE_intro c (part i).st _ _ _) $$ Hst
  isplitl [Hv]; · iexact Hv
  isplitl [Hsr]; · iexact Hsr
  isplitl [H1]; · iexact H1
  isplitl [H2] <;> iassumption

/-- A reduce phase's ends awaited, and what arrived loaded. -/
theorem wp_takeP (s : Fin 6) (o k : ℕ) (h : Fits (7 * (part i).h) o k) (hk : 0 < k) (he : 2 ∣ k) (hl : k ≤ 4 * (part i).h) (hw : k = wd i (phs s)) (Z : Arr (F .bf16)) (b : ℕ)
    (hp1 : pay m c false i s ⊢ ownE c (part i).sb 0 k) (hp2 : pay m c true i s ⊢ own c (part i).rb o k (sh Z b o))
    (t : ℕ) (ht : 6 * (s + 1) ≤ t) (Q : Vec F (Sh k) .bf16 → sProp 𝕄) :
    iprop(Ctx m κ ∗ En c false s i ∗ En c true s i ∗ ownE c (part i).sb k (4 * (part i).h - k) ∗ OW c (owed c t)
        ∗ (iprop(Dn c s i ∗ ownE c (part i).sb 0 (4 * (part i).h) ∗ ownE c (part i).rb o k ∗ OW c (owed c t)) -∗ Q (cut Z b k)))
      ⊢ WP c (takeP (part i) s o k h hk he hl) Q := by
  unfold takeP
  iintro ⟨#HC, H1, H2, Hsr, HO, HQ⟩
  iapply wpBind
  iapply (wp_rwt m κ c false i s (part i).rb (part i).hrb (part i).sb (part i).hsb o 0 h (fits0 hl) he (sS (part i).ix s) (congrArg (fun x => SemLoc.dma (sS x s)) (part_ix i)) hw t ht)
  isplitr; · iexact HC
  isplitl [H1]; · iexact H1
  isplitl [HO]; · iexact HO
  iintro ⟨Hv1, Hp1, HO⟩
  iapply wpBind
  iapply (wp_rwt m κ c true i s (part i).sb (part i).hsb (part i).rb (part i).hrb 0 o (fits0 hl) h he (rS (part i).ix s) (congrArg (fun x => SemLoc.dma (rS x s)) (part_ix i)) hw t ht)
  isplitr; · iexact HC
  isplitl [H2]; · iexact H2
  isplitl [HO]; · iexact HO
  iintro ⟨Hv2, Hp2, HO⟩
  ihave Hsb := hp1 $$ Hp1
  ihave Hrb := hp2 $$ Hp2
  iapply (wp_ld c (part i).rb o k h.1 _ _)
  isplitl [Hrb]; · iexact Hrb
  iintro Hrb
  rw [cut_sh0]
  iapply HQ
  isplitl [Hv1 Hv2]
  · unfold Dn; isplitl [Hv1] <;> iassumption
  isplitl [Hsb Hsr]
  · iapply (ownE_back c (part i).sb hl)
    isplitl [Hsb] <;> iassumption
  isplitl [Hrb]; · iapply (ownE_intro c (part i).rb _ _ _) $$ Hrb
  iexact HO

omit [FloatOps F] in
/-- Rows taken from the front, their contents forgotten. -/
theorem own_front {sp : Space} {n : ℕ} {e : EltTy} (M : Memref sig .tc sp (Sh n) e) {k K : ℕ} (h : k ≤ K) (X : Arr (Elt F e)) :
    own (F := F) c M 0 K X ⊢ iprop(ownE c M 0 k ∗ ownE c M k (K - k)) :=
  (ownE_intro c M _ _ X).trans (ownE_front c M h)

/-- What arrived added to the rows kept, at the front of the accumulator. -/
theorem wp_addP (K o k : ℕ) (h : Fits (4 * (part i).h) o k) (hk : 0 < k) (hl : k ≤ 4 * (part i).h) (h2 : o + k ≤ K) (X Z : Arr (F .f32)) (Y : Arr (F .bf16)) (b : ℕ)
    (hv : cut X o k = cut Z b k) (Q : PUnit → sProp 𝕄) :
    iprop(own c (part i).ac 0 K X ∗ (iprop(own c (part i).ac 0 k (sh (addA Z (exA Y)) b 0) ∗ ownE c (part i).ac k (K - k)) -∗ Q ⟨⟩))
      ⊢ WP c (addP (part i) o k h hk hl (cut Y b k : Vec F (Sh k) .bf16)) Q := by
  unfold addP
  iintro ⟨HA, HQ⟩
  iapply wpBind
  iapply (wp_ld_sub c (part i).ac 0 K o k (Nat.zero_le _) (by omega) h.1 _ X)
  isplitl [HA]; · iexact HA
  iintro HA
  ihave HA' := (own_front c (part i).ac (show k ≤ K by omega) X) $$ HA
  icases HA' with ⟨HA, Hr⟩
  iapply wpBind
  iapply (wp_ld_any c (part i).ac 0 k (fits0 hl).1 _)
  isplitl [HA]; · iexact HA
  iintro %v HA
  iapply (wp_sv c (part i).ac 0 k (fits0 hl).1 _ _ (sh (addA Z (exA Y)) b 0) (by rw [hv, cut_sh0, shapeCast_self]; exact sumv_cut Z Y b k))
  isplitl [HA]; · iexact HA
  iintro HA
  iapply HQ
  isplitl [HA] <;> iassumption

/-- The last sum, its results in both formats, and their copy to the result started. -/
theorem wp_lastP (o g : ℕ) (h : Fits (4 * (part i).h) o (part i).h) (hg : Fits 2048 g (part i).h) (h2 : o + (part i).h ≤ 2 * (part i).h) (X Z : Arr (F .f32)) (Y : Arr (F .bf16))
    (hv : cut X o (part i).h = cut Z g (part i).h) (G : Arr (F .bf16)) (hG : cut G g (part i).h = cut (bfA (epiA (addA Z (exA Y)))) g (part i).h)
    (R : Arr (F .f32)) (hR : cut R g (part i).h = cut (epiA (addA Z (exA Y))) g (part i).h) (Q : PUnit → sProp 𝕄) :
    iprop(own c (part i).ac 0 (2 * (part i).h) X ∗ ownE c gM g (part i).h ∗ ownE c oM g (part i).h ∗ semVal ((c : Thread nD τ), .dma (cS (part i).ix 1)) 0
        ∗ (iprop(ownE c (part i).ac (part i).h (2 * (part i).h - (part i).h) ∗ own c gM g (part i).h G
            ∗ Fl c (cS (part i).ix 1) (part i).h iprop(own c oM g (part i).h R ∗ ownE c (part i).ac 0 (part i).h)) -∗ Q ⟨⟩))
      ⊢ WP c (lastP (part i) o g h hg (cut Y g (part i).h : Vec F (Sh (part i).h) .bf16)) Q := by
  unfold lastP
  iintro ⟨HA, Hg, Ho, Hv, HQ⟩
  iapply wpBind
  iapply (wp_ld_sub c (part i).ac 0 (2 * (part i).h) o (part i).h (Nat.zero_le _) (by omega) h.1 _ X)
  isplitl [HA]; · iexact HA
  iintro HA
  ihave HA' := (own_front c (part i).ac (show (part i).h ≤ 2 * (part i).h by omega) X) $$ HA
  icases HA' with ⟨HA, Hr⟩
  iapply wpBind
  iapply (wp_ld_any c (part i).ac 0 (part i).h (fits0 (part i).le1).1 _)
  isplitl [HA]; · iexact HA
  iintro %v HA
  iapply wpBind
  iapply (wp_sv c (part i).ac 0 (part i).h (fits0 (part i).le1).1 _ _ (sh R g 0) (by rw [hv, cut_sh0, hR, shapeCast_self]; rfl))
  isplitl [HA]; · iexact HA
  iintro HA
  iapply wpBind
  iapply (wp_ld_any c gM g (part i).h hg.1 _)
  isplitl [Hg]; · iexact Hg
  iintro %v' Hg
  iapply wpBind
  iapply (wp_sv c gM g (part i).h hg.1 _ _ G (by rw [hv, hG]; exact nar_cut (epiA (addA Z (exA Y))) g (part i).h))
  isplitl [Hg]; · iexact Hg
  iintro Hg
  iapply (wp_cpy c (part i).hpos (sl (part i).ac 0 (part i).h (fits0 (part i).le1).1) (sl oM g (part i).h hg.1) (cS (part i).ix 1) _ (cut R g (part i).h) _ (sep_mono (own_of_sl c oM g (part i).h _ R)
    (by rw [← cut_sh0 R g 0]; exact (own_of_sl c (part i).ac 0 (part i).h _ _).trans (ownE_intro c _ _ _ _))))
  isplitl [HA]
  · rw [← cut_sh0 R g 0]
    iapply (own_to_sl c (part i).ac 0 (part i).h _ _) $$ HA
  isplitl [Ho]; · iapply (ownE_to_sl c oM g (part i).h _) $$ Ho
  isplitl [Hv]; · iexact Hv
  iintro HF
  iapply HQ
  isplitl [Hr]; · iexact Hr
  isplitl [Hg] <;> iassumption

/-- Gathered rows sent on. -/
theorem wp_fwdP (s : Fin 6) (c' : Dev nD) (hc : c' = peer c i s) (g k : ℕ) (hg : Fits 2048 g k) (he : 2 ∣ k) (hw : k = wd i (phs s))
    (hp1 : own c gM g k (gat m i) ⊢ pay m c false i s) (hp2 : own c' gM g k (gat m i) ⊢ pay m c' true i s)
    (t : ℕ) (ht : t = 6 * s + i) (Q : PUnit → sProp 𝕄) :
    iprop(Ctx m κ ∗ own c gM g k (gat m i) ∗ ownE c' gM g k ∗ Lk c s i ∗ OW c (owed c t)
        ∗ (iprop(En c false s i ∗ En c true s i ∗ OW c (owed c (t + 1))) -∗ Q ⟨⟩))
      ⊢ WP c (fwdP (part i) c' s g k hg he) Q := by
  unfold fwdP
  iintro ⟨#HC, Hg, Hd, HL, HO, HQ⟩
  iapply (wp_rcp m κ c i s c' hc gM hgM gM hgM g g hg hg he _ _ (congrArg (sS · s) (part_ix i)) (congrArg (rS · s) (part_ix i)) hw
    (cut (gat m i) g k) ((own_of_sl c gM g k _ _).trans hp1) ((own_of_sl c' gM g k _ _).trans hp2) t ht)
  isplitr; · iexact HC
  isplitl [Hg]; · iapply (own_to_sl c gM g k _ _) $$ Hg
  isplitl [Hd]; · iapply (ownE_to_sl c' gM g k _) $$ Hd
  isplitl [HL]; · iexact HL
  isplitl [HO]; · iexact HO
  iexact HQ

/-- A gather phase's ends awaited, the rows that arrived widened, and their copy to the result started. -/
theorem wp_gatP (s : Fin 6) (g z o k : ℕ) (hg : Fits 2048 g k) (hz : Fits 2048 z k) (h : Fits (7 * (part i).h) o k) (hk : 0 < k) (he : 2 ∣ k) (hw : k = wd i (phs s))
    (hp1 : pay m c false i s ⊢ own c gM g k (gat m i)) (hp2 : pay m c true i s ⊢ own c gM z k (gat m i))
    (R : Arr (F .f32)) (hR : cut R z k = cut (exA (gat m i)) z k) (t : ℕ) (ht : 6 * (s + 1) ≤ t) (Q : PUnit → sProp 𝕄) :
    iprop(Ctx m κ ∗ En c false s i ∗ En c true s i ∗ ownE c (part i).ag o k ∗ ownE c oM z k ∗ semVal ((c : Thread nD τ), .dma (cS (part i).ix s)) 0 ∗ OW c (owed c t)
        ∗ (iprop(Dn c s i ∗ own c gM g k (gat m i) ∗ own c gM z k (gat m i)
            ∗ Fl c (cS (part i).ix s) k iprop(own c oM z k R ∗ ownE c (part i).ag o k) ∗ OW c (owed c t)) -∗ Q ⟨⟩))
      ⊢ WP c (gatP (part i) s g z o k hg hz h hk he) Q := by
  unfold gatP
  iintro ⟨#HC, H1, H2, Ha, Ho, Hv, HO, HQ⟩
  iapply wpBind
  iapply (wp_rwt m κ c false i s gM hgM gM hgM g g hg hg he (sS (part i).ix s) (congrArg (fun x => SemLoc.dma (sS x s)) (part_ix i)) hw t ht)
  isplitr; · iexact HC
  isplitl [H1]; · iexact H1
  isplitl [HO]; · iexact HO
  iintro ⟨Hv1, Hp1, HO⟩
  iapply wpBind
  iapply (wp_rwt m κ c true i s gM hgM gM hgM g g hg hg he (rS (part i).ix s) (congrArg (fun x => SemLoc.dma (rS x s)) (part_ix i)) hw t ht)
  isplitr; · iexact HC
  isplitl [H2]; · iexact H2
  isplitl [HO]; · iexact HO
  iintro ⟨Hv2, Hp2, HO⟩
  ihave Hg := hp1 $$ Hp1
  ihave Hz := hp2 $$ Hp2
  iapply wpBind
  iapply (wp_ld c gM z k hz.1 _ _)
  isplitl [Hz]; · iexact Hz
  iintro Hz
  iapply wpBind
  iapply (wp_ld_any c (part i).ag o k h.1 _)
  isplitl [Ha]; · iexact Ha
  iintro %v Ha
  iapply wpBind
  iapply (wp_sv c (part i).ag o k h.1 _ _ (sh R z o) (by rw [cut_sh0, hR, shapeCast_self]; rfl))
  isplitl [Ha]; · iexact Ha
  iintro Ha
  iapply (wp_cpy c hk (sl (part i).ag o k h.1) (sl oM z k hz.1) (cS (part i).ix s) _ (cut R z k) _ (sep_mono (own_of_sl c oM z k _ R)
    (by rw [← cut_sh0 R z o]; exact (own_of_sl c (part i).ag o k _ _).trans (ownE_intro c _ _ _ _))))
  isplitl [Ha]
  · rw [← cut_sh0 R z o]
    iapply (own_to_sl c (part i).ag o k _ _) $$ Ha
  isplitl [Ho]; · iapply (ownE_to_sl c oM z k _) $$ Ho
  isplitl [Hv]; · iexact Hv
  iintro HF
  iapply HQ
  isplitl [Hv1 Hv2]
  · unfold Dn; isplitl [Hv1] <;> iassumption
  isplitl [Hg]; · iexact Hg
  isplitl [Hz]; · iexact Hz
  isplitl [HF] <;> iassumption

end blocks

end Cert.AllReduce

end
-- ==== Proof.Phases.lean ====
/-
The steps of the body, for one part.

A part passes from step to step with what the last step left for the next (`St…`); each step also
takes what it alone needs (`In…`, and what a neighbour granted) and leaves what no later step touches
(`Re…`).
-/
module

public import proofs.«01_k».proof.Proof.Steps

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Contents -/

/-- A block further on of a shifted family. -/
theorem cut_sh1 {α : Type} (X : Arr α) (o b k : ℕ) : cut (sh X o 0) b k = cut X (o + b) k := by
  have := cut_sh X o 0 b k
  rwa [Nat.zero_add] at this

/-- The rows a device gets back are apart from the rows it kept. -/
theorem sib_apart : ∀ (i : Fin 6) (c : Dev nD),
    (lo (part i) c 3 + (part i).h ≤ sib (part i) c 2 ∨ sib (part i) c 2 + (part i).h ≤ lo (part i) c 3)
    ∧ (lo (part i) c 3 + (part i).h ≤ sib (part i) c 1 ∨ sib (part i) c 1 + 2 * (part i).h ≤ lo (part i) c 3)
    ∧ (lo (part i) c 3 + (part i).h ≤ sib (part i) c 0 ∨ sib (part i) c 0 + 4 * (part i).h ≤ lo (part i) c 3) := by decide +kernel

section contents
variable (m : (ℓ : Loc nD τ sig) → Buf (Elt F) ℓ) (i : Fin 6) (c : Dev nD)

/-- The result's rows that the device keeps to the end are those it computed. -/
theorem out_lo3 : cut (out m i c) (lo (part i) c 3) (part i).h = cut (res m i c) (lo (part i) c 3) (part i).h :=
  cut_congr fun r hr l => if_pos ⟨Nat.le_add_right _ _, Nat.add_lt_add_left hr _⟩

/-- The others are those gathered. -/
theorem out_off {o k : ℕ} (h : lo (part i) c 3 + (part i).h ≤ o ∨ o + k ≤ lo (part i) c 3) : cut (out m i c) o k = cut (exA (gat m i)) o k :=
  cut_congr fun r hr l => if_neg (by omega)

/-- The gathered rows a device kept are its own results, narrowed. -/
theorem gat_lo3 : cut (gat m i) (lo (part i) c 3) (part i).h = cut (bfA (res m i c)) (lo (part i) c 3) (part i).h :=
  cut_congr fun r hr l => by
    show bfA (res m i (owner i _)) _ l = _
    rw [owner_eq i c _ (Nat.le_add_right _ _) (Nat.add_lt_add_left hr _)]

end contents

/-! ## Halves -/

section halves
variable {sp : Space} {n : ℕ} {e : EltTy} (c : Dev nD) (M : Memref sig .tc sp (Sh n) e)

omit [FloatOps F] in
/-- Two halves, in either order, make the whole. -/
theorem own_halves {a a' o k K : ℕ} (h : a = o ∧ a' = o + k ∨ a = o + k ∧ a' = o) (hK : K = k + k) (X : Arr (Elt F e)) :
    iprop(own (F := F) c M a k X ∗ own c M a' k X) ⊢ own c M o K X := by
  subst hK
  rcases h with ⟨rfl, rfl⟩ | ⟨rfl, rfl⟩
  · exact own_join c M _ k k X
  · refine BIBase.Entails.trans ?_ (own_join c M _ k k X)
    iintro ⟨H1, H2⟩
    isplitl [H2] <;> iassumption

omit [FloatOps F] in
/-- The whole splits in two halves. -/
theorem own_halve {a a' o k K : ℕ} (h : a = o ∧ a' = o + k ∨ a = o + k ∧ a' = o) (hK : K = k + k) (X : Arr (Elt F e)) :
    own c M o K X ⊢ iprop(own (F := F) c M a k X ∗ own c M a' k X) := by
  subst hK
  rcases h with ⟨rfl, rfl⟩ | ⟨rfl, rfl⟩
  · exact own_split c M _ k k X
  · refine BIBase.Entails.trans (own_split c M _ k k X) ?_
    iintro ⟨H1, H2⟩
    isplitl [H2] <;> iassumption

end halves

/-- The half kept and the half given away in the first phase are the part's two halves, in one order or the other; -/
theorem half1 : ∀ (i : Fin 6) (c : Dev nD), lo (part i) c 1 = lo (part i) c 0 ∧ sib (part i) c 0 = lo (part i) c 0 + 4 * (part i).h
    ∨ lo (part i) c 1 = lo (part i) c 0 + 4 * (part i).h ∧ sib (part i) c 0 = lo (part i) c 0 := by decide +kernel
/-- so are the quarters of the half in the second phase, -/
theorem half2 : ∀ (i : Fin 6) (c : Dev nD), lo (part i) c 2 = lo (part i) c 1 ∧ sib (part i) c 1 = lo (part i) c 1 + 2 * (part i).h
    ∨ lo (part i) c 2 = lo (part i) c 1 + 2 * (part i).h ∧ sib (part i) c 1 = lo (part i) c 1 := by decide +kernel
/-- and the eighths of the quarter in the third. -/
theorem half3 : ∀ (i : Fin 6) (c : Dev nD), lo (part i) c 3 = lo (part i) c 2 ∧ sib (part i) c 2 = lo (part i) c 2 + (part i).h
    ∨ lo (part i) c 3 = lo (part i) c 2 + (part i).h ∧ sib (part i) c 2 = lo (part i) c 2 := by decide +kernel

/-! ## The states -/

section steps
variable (m : (ℓ : Loc nD τ sig) → Buf (Elt F) ℓ) (κ : Dev nD × Cl → ℕ) (c : Dev nD) (i : Fin 6)

/-- Both ends of a transfer under way. -/
def Es (s : Fin 6) : sProp 𝕄 := iprop(En c false s i ∗ En c true s i)
/-- A local copy's semaphore, at rest. -/
def cv (j : Fin 6) : sProp 𝕄 := semVal ((c : Thread nD τ), .dma (cS (part i).ix j)) 0
/-- The rows a neighbour granted for a reduce phase, and for a gather phase. -/
def Grb (j : Fin 3) : sProp 𝕄 := ownE (nbr c ((part i).ax j)) (part i).rb (ro i j) (wd i j)
/-- The gathered rows a neighbour granted. -/
def Ggm (j : Fin 3) : sProp 𝕄 := ownE (nbr c ((part i).ax j)) gM (sib (part i) (nbr c ((part i).ax j)) j) (wd i j)

/-- What the loads start from. -/
def InStart : sProp 𝕄 := iprop(own c xM (lo (part i) c 1) (4 * (part i).h) (Xr m c) ∗ own c xM (sib (part i) c 0) (4 * (part i).h) (Xr m c)
  ∗ ownE c (part i).ac 0 (4 * (part i).h) ∗ ownE c (part i).st 0 (4 * (part i).h) ∗ cv c i 0 ∗ cv c i 2)
/-- What a part carries from its loads to its first transfer. -/
def StSend : sProp 𝕄 := iprop(FlA m c i ∗ FlS m c i)
/-- What the first transfer takes besides. -/
def InSend : sProp 𝕄 := iprop(ownE c (part i).sb 0 (4 * (part i).h) ∗ Lk c 0 i)
/-- What a part carries into the first reduce phase. -/
def StR0 : sProp 𝕄 := iprop(FlA m c i ∗ ownE c (part i).sb (4 * (part i).h) (4 * (part i).h - 4 * (part i).h) ∗ Es c i 0)
/-- What the first transfer leaves behind. -/
def ReSend : sProp 𝕄 := iprop(own c xM (sib (part i) c 0) (4 * (part i).h) (Xr m c) ∗ ownE c (part i).st 0 (4 * (part i).h) ∗ cv c i 2)
/-- What a part carries into the second reduce phase. -/
def StR1 : sProp 𝕄 := iprop(own c (part i).ac 0 (4 * (part i).h) (sh (acc m i 1 c) (lo (part i) c 1) 0) ∗ ownE c (part i).sb (2 * (part i).h) (4 * (part i).h - 2 * (part i).h) ∗ Es c i 1)
/-- What the first reduce phase leaves behind. -/
def ReR0 : sProp 𝕄 := iprop(Dn c 0 i ∗ ownE c (part i).rb 0 (4 * (part i).h) ∗ own c xM (lo (part i) c 1) (4 * (part i).h) (Xr m c) ∗ cv c i 0)
/-- What a part carries into the third reduce phase. -/
def StR2 : sProp 𝕄 := iprop(own c (part i).ac 0 (2 * (part i).h) (sh (acc m i 2 c) (lo (part i) c 2) 0) ∗ ownE c (part i).sb (part i).h (4 * (part i).h - (part i).h) ∗ Es c i 2)
/-- What the second reduce phase leaves behind. -/
def ReR1 : sProp 𝕄 := iprop(Dn c 1 i ∗ ownE c (part i).rb (4 * (part i).h) (2 * (part i).h) ∗ ownE c (part i).ac (2 * (part i).h) (4 * (part i).h - 2 * (part i).h))
/-- What the third reduce phase takes besides. -/
def InR2 : sProp 𝕄 := iprop(ownE c gM (lo (part i) c 3) (part i).h ∗ ownE c oM (lo (part i) c 3) (part i).h ∗ cv c i 1 ∗ Lk c 3 i)
/-- What the third reduce phase leaves behind, the copy of its own rows to the result under way. -/
def ReR2 : sProp 𝕄 := iprop(Dn c 2 i ∗ ownE c (part i).rb (4 * (part i).h + 2 * (part i).h) (part i).h ∗ ownE c (part i).sb 0 (4 * (part i).h) ∗ ownE c (part i).ac (part i).h (2 * (part i).h - (part i).h)
  ∗ Fl c (cS (part i).ix 1) (part i).h iprop(own c oM (lo (part i) c 3) (part i).h (out m i c) ∗ ownE c (part i).ac 0 (part i).h))
/-- What the first gather phase takes besides. -/
def InG0 : sProp 𝕄 := iprop(ownE c (part i).ag 0 (part i).h ∗ ownE c oM (sib (part i) c 2) (part i).h ∗ cv c i 3 ∗ Lk c 4 i)
/-- What the second gather phase takes besides. -/
def InG1 : sProp 𝕄 := iprop(ownE c (part i).ag (part i).h (2 * (part i).h) ∗ ownE c oM (sib (part i) c 1) (2 * (part i).h) ∗ cv c i 4 ∗ Lk c 5 i)
/-- What the last gather phase takes besides. -/
def InG2 : sProp 𝕄 := iprop(ownE c (part i).ag ((part i).h + 2 * (part i).h) (4 * (part i).h) ∗ ownE c oM (sib (part i) c 0) (4 * (part i).h) ∗ cv c i 5)
/-- What the first gather phase leaves behind, its copy to the result under way. -/
def ReG0 : sProp 𝕄 := iprop(Dn c 3 i ∗ Fl c (cS (part i).ix 3) (part i).h iprop(own c oM (sib (part i) c 2) (part i).h (out m i c) ∗ ownE c (part i).ag 0 (part i).h))
/-- What the second gather phase leaves behind, its copy under way. -/
def ReG1 : sProp 𝕄 := iprop(Dn c 4 i ∗ Fl c (cS (part i).ix 4) (2 * (part i).h) iprop(own c oM (sib (part i) c 1) (2 * (part i).h) (out m i c) ∗ ownE c (part i).ag (part i).h (2 * (part i).h)))
/-- What the last gather phase leaves behind, its copy under way. -/
def ReG2 : sProp 𝕄 := iprop(Dn c 5 i ∗ own c gM (lo (part i) c 1) (4 * (part i).h) (gat m i) ∗ own c gM (sib (part i) c 0) (4 * (part i).h) (gat m i)
  ∗ Fl c (cS (part i).ix 5) (4 * (part i).h) iprop(own c oM (sib (part i) c 0) (4 * (part i).h) (out m i c) ∗ ownE c (part i).ag ((part i).h + 2 * (part i).h) (4 * (part i).h)))

/-! ## The steps -/

/-- The step that starts a part's loads. -/
theorem wp_stepStart (O : CellTallies nD τ sig Unit) (Q : PUnit → sProp 𝕄) :
    iprop(Ctx m κ ∗ InStart m c i ∗ OW c O ∗ (iprop(StSend m c i ∗ OW c O) -∗ Q ⟨⟩)) ⊢ WP c (stepStart c i) Q := by
  unfold InStart StSend cv stepStart
  iintro ⟨-, ⟨H1, H2, H3, H4, H5, H6⟩, HO, HQ⟩
  iapply (wp_startP m c i _ _ _ _ (lo1W_eq i c) (oth1W_eq i c) Q)
  isplitl [H1]; · iexact H1
  isplitl [H2]; · iexact H2
  isplitl [H3]; · iexact H3
  isplitl [H4]; · iexact H4
  isplitl [H5]; · iexact H5
  isplitl [H6]; · iexact H6
  iintro H
  iapply HQ
  isplitl [H] <;> iassumption

/-- The step that starts its first transfer. -/
theorem wp_stepSend (Q : PUnit → sProp 𝕄) :
    iprop(Ctx m κ ∗ iprop(StSend m c i ∗ InSend c i ∗ Grb c i 0) ∗ OW c (owed c (6 * (0 : Fin 6) + i))
        ∗ (iprop(iprop(StR0 m c i ∗ ReSend m c i) ∗ OW c (owed c (6 * (0 : Fin 6) + (i + 1)))) -∗ Q ⟨⟩)) ⊢ WP c (stepSend c i) Q := by
  unfold StSend InSend Grb StR0 ReSend Es cv stepSend
  iintro ⟨#HC, ⟨⟨HA, HS⟩, ⟨Hsb, HL⟩, HG⟩, HO, HQ⟩
  iapply (wp_sendP m κ c i _ rfl _ _ Q)
  isplitr; · iexact HC
  isplitl [HS]; · iexact HS
  isplitl [Hsb]; · iexact Hsb
  isplitl [HG]; · iexact HG
  isplitl [HL]; · iexact HL
  isplitl [HO]; · iexact HO
  iintro ⟨H1, H2, H3, H4, H5, H6, HO⟩
  iapply HQ
  isplitr [HO]
  · isplitl [HA H4 H5 H6]
    · isplitl [HA]; · iexact HA
      isplitl [H4]; · iexact H4
      isplitl [H5] <;> iassumption
    isplitl [H1]; · iexact H1
    isplitl [H2] <;> iassumption
  · iexact HO

/-- The first reduce phase. -/
theorem wp_stepR0 (Q : PUnit → sProp 𝕄) :
    iprop(Ctx m κ ∗ iprop(StR0 m c i ∗ Lk c 1 i ∗ Grb c i 1) ∗ OW c (owed c (6 * (1 : Fin 6) + i))
        ∗ (iprop(iprop(StR1 m c i ∗ ReR0 m c i) ∗ OW c (owed c (6 * (1 : Fin 6) + (i + 1)))) -∗ Q ⟨⟩)) ⊢ WP c (stepR0 c i) Q := by
  unfold StR0 Grb StR1 ReR0 Es cv FlA stepR0
  iintro ⟨#HC, ⟨⟨HA, Hsr, H1, H2⟩, HL, HG⟩, HO, HQ⟩
  iapply wpBind
  iapply (wp_takeP m κ c i 0 0 (4 * (part i).h) (fits_rb0 i) (part i).p4 (part i).e4 (le_refl _) rfl (bfA (acc m i 0 (peer c i 0))) (lo (part i) c 1)
    (Entails.of_eq rfl) (Entails.of_eq rfl) (6 * (1 : Fin 6) + i) (Nat.le_add_right _ _))
  isplitr; · iexact HC
  isplitl [H1]; · iexact H1
  isplitl [H2]; · iexact H2
  isplitl [Hsr]; · iexact Hsr
  isplitl [HO]; · iexact HO
  iintro ⟨HD, Hsb, Hrb, HO⟩
  iapply wpBind
  iapply (wp_cwt c _ _ (cS (part i).ix 0) _ (owed c (6 * (1 : Fin 6) + i)))
  isplitl [HA]; · iexact HA
  isplitl [HO]; · iexact HO
  isplitr
  · iapply (ctx_mayWait m κ c _ _ (by rw [lv_copy]; exact Nat.succ_pos _)); iexact HC
  iintro ⟨⟨Hac, Hx⟩, Hv, HO⟩
  iapply wpBind
  iapply (wp_addP c i (4 * (part i).h) 0 (4 * (part i).h) (fits0 (le_refl _)) (part i).p4 (le_refl _) (by omega) _ (acc m i 0 c) _ (lo (part i) c 1) (cut_sh1 _ _ 0 _))
  isplitl [Hac]; · iexact Hac
  iintro ⟨Hac, -⟩
  iapply (wp_narrowSend m κ c i 1 _ rfl (part i).ac 0 (4 * (part i).h) _ (4 * (part i).h) (2 * (part i).h) (fits_oth1' i c) (fits_rb1 i) (part i).p2 (part i).e2 (part i).le2
    (Nat.zero_le _) (by have := (fits_oth1' i c).1; omega) rfl (sh (acc m i 1 c) (lo (part i) c 1) 0) (acc m i 1 c) (sib (part i) c 1)
    (by rw [cut_sh1, (off_eq i c 1).2.2.1]; rfl) (Entails.of_eq rfl)
    (Entails.of_eq (by rw [← lo_peer1]; show _ = pay m (peer c i 1) true i 1; dsimp only [pay]; rw [peer_peer])) _ rfl)
  isplitr; · iexact HC
  isplitl [Hac]; · iexact Hac
  isplitl [Hsb]; · iexact Hsb
  isplitl [HG]; · iexact HG
  isplitl [HL]; · iexact HL
  isplitl [HO]; · iexact HO
  iintro ⟨Hac, Hsr, H1, H2, HO⟩
  iapply HQ
  isplitr [HO]
  · isplitl [Hac H1 H2 Hsr]
    · isplitl [Hac]; · iexact Hac
      isplitl [Hsr]; · iexact Hsr
      isplitl [H1] <;> iassumption
    isplitl [HD]; · iexact HD
    isplitl [Hrb]; · iexact Hrb
    isplitl [Hx] <;> iassumption
  · iexact HO

/-- The second reduce phase. -/
theorem wp_stepR1 (Q : PUnit → sProp 𝕄) :
    iprop(Ctx m κ ∗ iprop(StR1 m c i ∗ Lk c 2 i ∗ Grb c i 2) ∗ OW c (owed c (6 * (2 : Fin 6) + i))
        ∗ (iprop(iprop(StR2 m c i ∗ ReR1 c i) ∗ OW c (owed c (6 * (2 : Fin 6) + (i + 1)))) -∗ Q ⟨⟩)) ⊢ WP c (stepR1 c i) Q := by
  unfold StR1 Grb StR2 ReR1 Es stepR1
  iintro ⟨#HC, ⟨⟨Hac, Hsr, H1, H2⟩, HL, HG⟩, HO, HQ⟩
  iapply wpBind
  iapply (wp_takeP m κ c i 1 (4 * (part i).h) (2 * (part i).h) (fits_rb1 i) (part i).p2 (part i).e2 (part i).le2 rfl (bfA (acc m i 1 (peer c i 1))) (lo (part i) c 2)
    (Entails.of_eq rfl) (Entails.of_eq rfl) (6 * (2 : Fin 6) + i) (Nat.le_add_right _ _))
  isplitr; · iexact HC
  isplitl [H1]; · iexact H1
  isplitl [H2]; · iexact H2
  isplitl [Hsr]; · iexact Hsr
  isplitl [HO]; · iexact HO
  iintro ⟨HD, Hsb, Hrb, HO⟩
  iapply wpBind
  iapply (wp_addP c i (4 * (part i).h) _ (2 * (part i).h) (fits_off1 i c) (part i).p2 (part i).le2 (fits_off1 i c).1 _ (acc m i 1 c) _ (lo (part i) c 2)
    (by rw [cut_sh1, (off_eq i c 1).1]; rfl))
  isplitl [Hac]; · iexact Hac
  iintro ⟨Hac, Har⟩
  iapply (wp_narrowSend m κ c i 2 _ rfl (part i).ac 0 (2 * (part i).h) _ (4 * (part i).h + 2 * (part i).h) (part i).h (fits_oth2' i c) (fits_rb2 i) (part i).hpos (part i).e1 (part i).le1
    (Nat.zero_le _) (by
      rw [(off_eq i c 2).2.2.2]
      have := Nat.mul_le_mul_right (part i).h (Nat.sub_le 1 (bit c ((part i).ax 2)))
      omega) rfl (sh (acc m i 2 c) (lo (part i) c 2) 0) (acc m i 2 c) (sib (part i) c 2)
    (by rw [cut_sh1, (off_eq i c 2).2.2.2]; rfl) (Entails.of_eq rfl)
    (Entails.of_eq (by rw [← lo_peer2]; show _ = pay m (peer c i 2) true i 2; dsimp only [pay]; rw [peer_peer])) _ rfl)
  isplitr; · iexact HC
  isplitl [Hac]; · iexact Hac
  isplitl [Hsb]; · iexact Hsb
  isplitl [HG]; · iexact HG
  isplitl [HL]; · iexact HL
  isplitl [HO]; · iexact HO
  iintro ⟨Hac, Hsr, H1, H2, HO⟩
  iapply HQ
  isplitr [HO]
  · isplitl [Hac H1 H2 Hsr]
    · isplitl [Hac]; · iexact Hac
      isplitl [Hsr]; · iexact Hsr
      isplitl [H1] <;> iassumption
    isplitl [HD]; · iexact HD
    isplitl [Hrb] <;> iassumption
  · iexact HO

/-- The third reduce phase: the sum is whole, and the epilogue is computed and sent on. -/
theorem wp_stepR2 (Q : PUnit → sProp 𝕄) :
    iprop(Ctx m κ ∗ iprop(StR2 m c i ∗ InR2 c i ∗ Ggm c i 2) ∗ OW c (owed c (6 * (3 : Fin 6) + i))
        ∗ (iprop(iprop(Es c i 3 ∗ ReR2 m c i) ∗ OW c (owed c (6 * (3 : Fin 6) + (i + 1)))) -∗ Q ⟨⟩)) ⊢ WP c (stepR2 c i) Q := by
  unfold StR2 InR2 Ggm ReR2 Es cv stepR2
  generalize fits_lo3 i c = hf
  have e := lo3W_eq i c
  revert hf e
  generalize (lo3W (part i) c).toNat = g
  rintro hf rfl
  iintro ⟨#HC, ⟨⟨Hac, Hsr, H1, H2⟩, ⟨Hg, Ho, Hv, HL⟩, HG⟩, HO, HQ⟩
  iapply wpBind
  iapply (wp_takeP m κ c i 2 (4 * (part i).h + 2 * (part i).h) (part i).h (fits_rb2 i) (part i).hpos (part i).e1 (part i).le1 rfl (bfA (acc m i 2 (peer c i 2))) (lo (part i) c 3)
    (Entails.of_eq rfl) (Entails.of_eq rfl) (6 * (3 : Fin 6) + i) (Nat.le_add_right _ _))
  isplitr; · iexact HC
  isplitl [H1]; · iexact H1
  isplitl [H2]; · iexact H2
  isplitl [Hsr]; · iexact Hsr
  isplitl [HO]; · iexact HO
  iintro ⟨HD, Hsb, Hrb, HO⟩
  iapply wpBind
  iapply (wp_lastP c i _ (lo (part i) c 3) (fits_off2 i c) hf (by
      rw [(off_eq i c 2).2.1]
      have := Nat.mul_le_mul_right (part i).h (bit_le c ((part i).ax 2))
      omega) _ (acc m i 2 c) _ (by rw [cut_sh1, (off_eq i c 2).2.1]; rfl) (gat m i) (gat_lo3 m i c) (out m i c) (out_lo3 m i c))
  isplitl [Hac]; · iexact Hac
  isplitl [Hg]; · iexact Hg
  isplitl [Ho]; · iexact Ho
  isplitl [Hv]; · iexact Hv
  iintro ⟨Har, Hg, HF⟩
  iapply (wp_fwdP m κ c i 3 _ rfl (lo (part i) c 3) (part i).h hf (part i).e1 rfl (Entails.of_eq rfl)
    (Entails.of_eq (by rw [← sib_peer3]; rfl)) (6 * (3 : Fin 6) + i) rfl)
  isplitr; · iexact HC
  isplitl [Hg]; · iexact Hg
  isplitl [HG]
  · rw [← sib_peer3]; iexact HG
  isplitl [HL]; · iexact HL
  isplitl [HO]; · iexact HO
  iintro ⟨H1, H2, HO⟩
  iapply HQ
  isplitr [HO]
  · isplitl [H1 H2]
    · isplitl [H1] <;> iassumption
    isplitl [HD]; · iexact HD
    isplitl [Hrb]; · iexact Hrb
    isplitl [Hsb]; · iexact Hsb
    isplitl [Har] <;> iassumption
  · iexact HO

/-- The first gather phase. -/
theorem wp_stepG0 (Q : PUnit → sProp 𝕄) :
    iprop(Ctx m κ ∗ iprop(Es c i 3 ∗ InG0 c i ∗ Ggm c i 1) ∗ OW c (owed c (6 * (4 : Fin 6) + i))
        ∗ (iprop(iprop(Es c i 4 ∗ ReG0 m c i) ∗ OW c (owed c (6 * (4 : Fin 6) + (i + 1)))) -∗ Q ⟨⟩)) ⊢ WP c (stepG0 c i) Q := by
  unfold InG0 Ggm ReG0 Es cv stepG0
  generalize fits_lo3 i c = hf
  have e := lo3W_eq i c
  revert hf e
  generalize (lo3W (part i) c).toNat = g
  rintro hf rfl
  generalize fits_sib2 i c = hz
  have e := sib2W_eq i c
  revert hz e
  generalize (sib2W (part i) c).toNat = z
  rintro hz rfl
  iintro ⟨#HC, ⟨⟨H1, H2⟩, ⟨Ha, Ho, Hv, HL⟩, HG⟩, HO, HQ⟩
  iapply wpBind
  iapply (wp_gatP m κ c i 3 _ _ 0 (part i).h hf hz (fits_ag0 i) (part i).hpos (part i).e1 rfl (Entails.of_eq rfl) (Entails.of_eq rfl)
    (out m i c) (out_off m i c (sib_apart i c).1) (6 * (4 : Fin 6) + i) (Nat.le_add_right _ _))
  isplitr; · iexact HC
  isplitl [H1]; · iexact H1
  isplitl [H2]; · iexact H2
  isplitl [Ha]; · iexact Ha
  isplitl [Ho]; · iexact Ho
  isplitl [Hv]; · iexact Hv
  isplitl [HO]; · iexact HO
  iintro ⟨HD, Hg1, Hg2, HF, HO⟩
  ihave Hg := (own_halves c gM (half3 i c) (show 2 * (part i).h = (part i).h + (part i).h by omega) (gat m i)) $$ [Hg1 Hg2]
  · isplitl [Hg1] <;> iassumption
  generalize fits_up2 i c = hu
  have e := up2W_eq i c
  revert hu e
  generalize (up2W (part i) c).toNat = u
  rintro hu rfl
  iapply (wp_fwdP m κ c i 4 _ rfl _ (2 * (part i).h) hu (part i).e2 rfl (Entails.of_eq rfl)
    (Entails.of_eq (by rw [← sib_peer4]; rfl)) (6 * (4 : Fin 6) + i) rfl)
  isplitr; · iexact HC
  isplitl [Hg]; · iexact Hg
  isplitl [HG]
  · rw [← sib_peer4]; iexact HG
  isplitl [HL]; · iexact HL
  isplitl [HO]; · iexact HO
  iintro ⟨H1, H2, HO⟩
  iapply HQ
  isplitr [HO]
  · isplitl [H1 H2]
    · isplitl [H1] <;> iassumption
    isplitl [HD] <;> iassumption
  · iexact HO

/-- The second gather phase. -/
theorem wp_stepG1 (Q : PUnit → sProp 𝕄) :
    iprop(Ctx m κ ∗ iprop(Es c i 4 ∗ InG1 c i ∗ Ggm c i 0) ∗ OW c (owed c (6 * (5 : Fin 6) + i))
        ∗ (iprop(iprop(Es c i 5 ∗ ReG1 m c i) ∗ OW c (owed c (6 * (5 : Fin 6) + (i + 1)))) -∗ Q ⟨⟩)) ⊢ WP c (stepG1 c i) Q := by
  unfold InG1 Ggm ReG1 Es cv stepG1
  generalize fits_up2 i c = hf
  have e := up2W_eq i c
  revert hf e
  generalize (up2W (part i) c).toNat = g
  rintro hf rfl
  generalize fits_sib1 i c = hz
  have e := sib1W_eq i c
  revert hz e
  generalize (sib1W (part i) c).toNat = z
  rintro hz rfl
  iintro ⟨#HC, ⟨⟨H1, H2⟩, ⟨Ha, Ho, Hv, HL⟩, HG⟩, HO, HQ⟩
  iapply wpBind
  iapply (wp_gatP m κ c i 4 _ _ (part i).h (2 * (part i).h) hf hz (fits_ag1 i) (part i).p2 (part i).e2 rfl (Entails.of_eq rfl) (Entails.of_eq rfl)
    (out m i c) (out_off m i c (sib_apart i c).2.1) (6 * (5 : Fin 6) + i) (Nat.le_add_right _ _))
  isplitr; · iexact HC
  isplitl [H1]; · iexact H1
  isplitl [H2]; · iexact H2
  isplitl [Ha]; · iexact Ha
  isplitl [Ho]; · iexact Ho
  isplitl [Hv]; · iexact Hv
  isplitl [HO]; · iexact HO
  iintro ⟨HD, Hg1, Hg2, HF, HO⟩
  ihave Hg := (own_halves c gM (half2 i c) (show 4 * (part i).h = (2 * (part i).h) + (2 * (part i).h) by omega) (gat m i)) $$ [Hg1 Hg2]
  · isplitl [Hg1] <;> iassumption
  generalize fits_up1 i c = hu
  have e := up1W_eq i c
  revert hu e
  generalize (up1W (part i) c).toNat = u
  rintro hu rfl
  iapply (wp_fwdP m κ c i 5 _ rfl _ (4 * (part i).h) hu (part i).e4 rfl (Entails.of_eq rfl)
    (Entails.of_eq (by rw [← sib_peer5]; rfl)) (6 * (5 : Fin 6) + i) rfl)
  isplitr; · iexact HC
  isplitl [Hg]; · iexact Hg
  isplitl [HG]
  · rw [← sib_peer5]; iexact HG
  isplitl [HL]; · iexact HL
  isplitl [HO]; · iexact HO
  iintro ⟨H1, H2, HO⟩
  iapply HQ
  isplitr [HO]
  · isplitl [H1 H2]
    · isplitl [H1] <;> iassumption
    isplitl [HD] <;> iassumption
  · iexact HO

/-- The last gather phase. -/
theorem wp_stepG2 (Q : PUnit → sProp 𝕄) :
    iprop(Ctx m κ ∗ iprop(Es c i 5 ∗ InG2 c i) ∗ OW c (owed c 36)
        ∗ (iprop(ReG2 m c i ∗ OW c (owed c 36)) -∗ Q ⟨⟩)) ⊢ WP c (stepG2 c i) Q := by
  unfold InG2 ReG2 Es cv stepG2
  generalize fits_up1 i c = hf
  have e := up1W_eq i c
  revert hf e
  generalize (up1W (part i) c).toNat = g
  rintro hf rfl
  generalize fits_sib0 i c = hz
  have e := sib0W_eq i c
  revert hz e
  generalize (sib0W (part i) c).toNat = z
  rintro hz rfl
  iintro ⟨#HC, ⟨⟨H1, H2⟩, ⟨Ha, Ho, Hv⟩⟩, HO, HQ⟩
  iapply (wp_gatP m κ c i 5 _ _ ((part i).h + 2 * (part i).h) (4 * (part i).h) hf hz (fits_ag2 i) (part i).p4 (part i).e4 rfl (Entails.of_eq rfl) (Entails.of_eq rfl)
    (out m i c) (out_off m i c (sib_apart i c).2.2) 36 (le_refl _))
  isplitr; · iexact HC
  isplitl [H1]; · iexact H1
  isplitl [H2]; · iexact H2
  isplitl [Ha]; · iexact Ha
  isplitl [Ho]; · iexact Ho
  isplitl [Hv]; · iexact Hv
  isplitl [HO]; · iexact HO
  iintro ⟨HD, Hg1, Hg2, HF, HO⟩
  iapply HQ
  isplitr [HO]
  · isplitl [HD]; · iexact HD
    isplitl [Hg1]; · iexact Hg1
    isplitl [Hg2] <;> iassumption
  · iexact HO

/-- A copy to the result awaited. -/
theorem wp_cwtEnd {sp sp' : Space} {k : ℕ} (src : Memref sig .tc sp (Sh k) .f32) (dst : Memref sig .tc sp' (Sh k) .f32) (j : Fin 6) (D : sProp 𝕄)
    (Q : PUnit → sProp 𝕄) :
    iprop(Ctx m κ ∗ Fl c (cS (part i).ix j) k D ∗ OW c (owed c 36) ∗ (iprop(iprop(D ∗ cv c i j) ∗ OW c (owed c 36)) -∗ Q ⟨⟩))
      ⊢ WP c (cwt src dst (cS (part i).ix j)) Q := by
  unfold cv
  iintro ⟨#HC, HF, HO, HQ⟩
  iapply (wp_cwt c _ _ (cS (part i).ix j) _ (owed c 36))
  isplitl [HF]; · iexact HF
  isplitl [HO]; · iexact HO
  isplitr
  · iapply (ctx_mayWait m κ c _ _ (by rw [lv_copy]; exact Nat.succ_pos _)); iexact HC
  iintro ⟨HD, Hv, HO⟩
  iapply HQ
  isplitr [HO]
  · isplitl [HD] <;> iassumption
  · iexact HO

/-! ## A step over the six parts -/

end steps

/-- A step proved for each part is proved for the six in turn. -/
theorem wp_each (C : sProp 𝕄) [BI.Persistent C] (c : Dev nD) (b : Fin 6 → Pg F PUnit) (I J : Fin 6 → sProp 𝕄) (O : ℕ → CellTallies nD τ sig Unit)
    (hb : ∀ (i : Fin 6) (Q : PUnit → sProp 𝕄), iprop(C ∗ I i ∗ OW c (O i) ∗ (iprop(J i ∗ OW c (O (i + 1))) -∗ Q ⟨⟩)) ⊢ WP c (b i) Q)
    (Q : PUnit → sProp 𝕄) :
    iprop(C ∗ bigSep Finset.univ I ∗ OW c (O 0) ∗ (iprop(bigSep Finset.univ J ∗ OW c (O 6)) -∗ Q ⟨⟩)) ⊢ WP c (each b) Q := by
  have e (K : Fin 6 → sProp 𝕄) : bigSep Finset.univ K = iprop(K 0 ∗ K 1 ∗ K 2 ∗ K 3 ∗ K 4 ∗ K 5) := by
    rw [bigSep_univ_eq_bigSepL [0, 1, 2, 3, 4, 5] (by decide) (by decide)]
    rfl
  rw [e I, e J]
  unfold each
  iintro ⟨#HC, ⟨H0, H1, H2, H3, H4, H5⟩, HO, HQ⟩
  iapply wpBind
  iapply (hb 0)
  isplitr; · iexact HC
  isplitl [H0]; · iexact H0
  isplitl [HO]; · iexact HO
  iintro ⟨H0, HO⟩
  iapply wpBind
  iapply (hb 1)
  isplitr; · iexact HC
  isplitl [H1]; · iexact H1
  isplitl [HO]; · iexact HO
  iintro ⟨H1, HO⟩
  iapply wpBind
  iapply (hb 2)
  isplitr; · iexact HC
  isplitl [H2]; · iexact H2
  isplitl [HO]; · iexact HO
  iintro ⟨H2, HO⟩
  iapply wpBind
  iapply (hb 3)
  isplitr; · iexact HC
  isplitl [H3]; · iexact H3
  isplitl [HO]; · iexact HO
  iintro ⟨H3, HO⟩
  iapply wpBind
  iapply (hb 4)
  isplitr; · iexact HC
  isplitl [H4]; · iexact H4
  isplitl [HO]; · iexact HO
  iintro ⟨H4, HO⟩
  iapply (hb 5)
  isplitr; · iexact HC
  isplitl [H5]; · iexact H5
  isplitl [HO]; · iexact HO
  iintro ⟨H5, HO⟩
  iapply HQ
  isplitr [HO]
  · isplitl [H0]; · iexact H0
    isplitl [H1]; · iexact H1
    isplitl [H2]; · iexact H2
    isplitl [H3]; · iexact H3
    isplitl [H4] <;> iassumption
  · iexact HO

end Cert.AllReduce

end
-- ==== Proof.Body.lean ====
/-
The whole body on one device.

What a device starts with is dealt to the six parts and their steps; the barrier trades the rows each
device lets its neighbours write; the steps run one after the other, each over the six parts; and what
they leave is gathered again: the argument as it was, the result at `out`, and every counter at zero.
-/
module

public import proofs.«01_k».proof.Proof.Phases

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Rows at any contents, split and joined -/

section rowsE
variable {sp : Space} {n : ℕ} {e : EltTy} (c : Dev nD) (M : Memref sig .tc sp (Sh n) e)

omit [FloatOps F] in
/-- Rows cut into halves, named in either order. -/
theorem ownE_halve {a a' o k K : ℕ} (h : a = o ∧ a' = o + k ∨ a = o + k ∧ a' = o) (hK : K = k + k) :
    ownE c M o K ⊢ iprop(ownE (F := F) c M a k ∗ ownE c M a' k) := by
  subst hK
  rcases h with ⟨rfl, rfl⟩ | ⟨rfl, rfl⟩
  · exact ownE_split c M _ k k
  · refine BIBase.Entails.trans (ownE_split c M _ k k) ?_
    iintro ⟨H1, H2⟩
    isplitl [H2] <;> iassumption

omit [FloatOps F] in
/-- Rows cut in two at a row; -/
theorem ownE_cut {o K k k' o' : ℕ} (hK : K = k + k') (ho : o' = o + k) :
    ownE c M o K ⊢ iprop(ownE (F := F) c M o k ∗ ownE c M o' k') := by
  subst hK ho
  exact ownE_split c M _ k k'

omit [FloatOps F] in
/-- and joined there. -/
theorem ownE_glue {o K k k' o' : ℕ} (hK : K = k + k') (ho : o' = o + k) :
    iprop(ownE (F := F) c M o k ∗ ownE c M o' k') ⊢ ownE c M o K := by
  subst hK ho
  exact ownE_join c M _ k k'

end rowsE

omit [FloatOps F] in
/-- A family of three, one by one. -/
theorem bs3 (Φ : Fin 3 → sProp 𝕄) : bigSep Finset.univ Φ = iprop(Φ 0 ∗ Φ 1 ∗ Φ 2) := bigSep_univ_eq_bigSepL [0, 1, 2] (by decide) (by decide) Φ
omit [FloatOps F] in
/-- A family of six, one by one. -/
theorem bs6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- A family, member by member. -/
theorem bsMono {ι : Type} [DecidableEq ι] [Fintype ι] {Φ Ψ : ι → sProp 𝕄} (h : ∀ i, Φ i ⊢ Ψ i) : bigSep Finset.univ Φ ⊢ bigSep Finset.univ Ψ :=
  bigSep_mono fun i _ => h i

omit [FloatOps F] in
/-- Products over two indices, in either order. -/
theorem bsSwap {α β : Type} [Fintype α] [Fintype β] [DecidableEq α] [DecidableEq β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), ← bigSep_univ_prod (fun x : β × α => Φ x.2 x.1)]
  exact bigSep_univ_equiv (Equiv.prodComm β α) _

/-! ## The last steps -/

section parts
variable (m : (ℓ : Loc nD τ sig) → Buf (Elt F) ℓ) (κ : Dev nD × Cl → ℕ) (c : Dev nD) (i : Fin 6)

/-- What is left of the third reduce phase once its copy has arrived. -/
def EnR2 : sProp 𝕄 := iprop(Dn c 2 i ∗ ownE c (part i).rb (4 * (part i).h + 2 * (part i).h) (part i).h ∗ ownE c (part i).sb 0 (4 * (part i).h) ∗ ownE c (part i).ac (part i).h (2 * (part i).h - (part i).h)
  ∗ own c oM (lo (part i) c 3) (part i).h (out m i c) ∗ ownE c (part i).ac 0 (part i).h ∗ cv c i 1)
/-- What is left of the first gather phase once its copy has arrived. -/
def EnG0 : sProp 𝕄 := iprop(Dn c 3 i ∗ own c oM (sib (part i) c 2) (part i).h (out m i c) ∗ ownE c (part i).ag 0 (part i).h ∗ cv c i 3)
/-- What is left of the second gather phase. -/
def EnG1 : sProp 𝕄 := iprop(Dn c 4 i ∗ own c oM (sib (part i) c 1) (2 * (part i).h) (out m i c) ∗ ownE c (part i).ag (part i).h (2 * (part i).h) ∗ cv c i 4)
/-- What is left of the last gather phase. -/
def EnG2 : sProp 𝕄 := iprop(Dn c 5 i ∗ own c gM (lo (part i) c 1) (4 * (part i).h) (gat m i) ∗ own c gM (sib (part i) c 0) (4 * (part i).h) (gat m i)
  ∗ own c oM (sib (part i) c 0) (4 * (part i).h) (out m i c) ∗ ownE c (part i).ag ((part i).h + 2 * (part i).h) (4 * (part i).h) ∗ cv c i 5)

/-- The wait for the copy of a part's own rows. -/
theorem wp_stepO0 (Q : PUnit → sProp 𝕄) :
    iprop(Ctx m κ ∗ ReR2 m c i ∗ OW c (owed c 36) ∗ (iprop(EnR2 m c i ∗ OW c (owed c 36)) -∗ Q ⟨⟩)) ⊢ WP c (stepO0 c i) Q := by
  unfold ReR2 EnR2 stepO0 outA
  iintro ⟨#HC, ⟨H1, H2, H3, H4, HF⟩, HO, HQ⟩
  iapply (wp_cwtEnd m κ c i _ _ 1 _ Q)
  isplitr; · iexact HC
  isplitl [HF]; · iexact HF
  isplitl [HO]; · iexact HO
  iintro ⟨⟨⟨H5, H6⟩, H7⟩, HO⟩
  iapply HQ
  isplitr [HO]
  · isplitl [H1]; · iexact H1
    isplitl [H2]; · iexact H2
    isplitl [H3]; · iexact H3
    isplitl [H4]; · iexact H4
    isplitl [H5]; · iexact H5
    isplitl [H6] <;> iassumption
  · iexact HO

/-- The wait for the copy of the first gather phase's rows. -/
theorem wp_stepO1 (Q : PUnit → sProp 𝕄) :
    iprop(Ctx m κ ∗ ReG0 m c i ∗ OW c (owed c 36) ∗ (iprop(EnG0 m c i ∗ OW c (owed c 36)) -∗ Q ⟨⟩)) ⊢ WP c (stepO1 c i) Q := by
  unfold ReG0 EnG0 stepO1 outG
  iintro ⟨#HC, ⟨H1, HF⟩, HO, HQ⟩
  iapply (wp_cwtEnd m κ c i _ _ 3 _ Q)
  isplitr; · iexact HC
  isplitl [HF]; · iexact HF
  isplitl [HO]; · iexact HO
  iintro ⟨⟨⟨H5, H6⟩, H7⟩, HO⟩
  iapply HQ
  isplitr [HO]
  · isplitl [H1]; · iexact H1
    isplitl [H5]; · iexact H5
    isplitl [H6] <;> iassumption
  · iexact HO

/-- The wait for the copy of the second gather phase's rows. -/
theorem wp_stepO2 (Q : PUnit → sProp 𝕄) :
    iprop(Ctx m κ ∗ ReG1 m c i ∗ OW c (owed c 36) ∗ (iprop(EnG1 m c i ∗ OW c (owed c 36)) -∗ Q ⟨⟩)) ⊢ WP c (stepO2 c i) Q := by
  unfold ReG1 EnG1 stepO2 outG
  iintro ⟨#HC, ⟨H1, HF⟩, HO, HQ⟩
  iapply (wp_cwtEnd m κ c i _ _ 4 _ Q)
  isplitr; · iexact HC
  isplitl [HF]; · iexact HF
  isplitl [HO]; · iexact HO
  iintro ⟨⟨⟨H5, H6⟩, H7⟩, HO⟩
  iapply HQ
  isplitr [HO]
  · isplitl [H1]; · iexact H1
    isplitl [H5]; · iexact H5
    isplitl [H6] <;> iassumption
  · iexact HO

/-- The wait for the copy of the last gather phase's rows. -/
theorem wp_stepO3 (Q : PUnit → sProp 𝕄) :
    iprop(Ctx m κ ∗ ReG2 m c i ∗ OW c (owed c 36) ∗ (iprop(EnG2 m c i ∗ OW c (owed c 36)) -∗ Q ⟨⟩)) ⊢ WP c (stepO3 c i) Q := by
  unfold ReG2 EnG2 stepO3 outG
  iintro ⟨#HC, ⟨H1, H2, H3, HF⟩, HO, HQ⟩
  iapply (wp_cwtEnd m κ c i _ _ 5 _ Q)
  isplitr; · iexact HC
  isplitl [HF]; · iexact HF
  isplitl [HO]; · iexact HO
  iintro ⟨⟨⟨H5, H6⟩, H7⟩, HO⟩
  iapply HQ
  isplitr [HO]
  · isplitl [H1]; · iexact H1
    isplitl [H2]; · iexact H2
    isplitl [H3]; · iexact H3
    isplitl [H5]; · iexact H5
    isplitl [H6] <;> iassumption
  · iexact HO

/-! ## What a part starts and ends with -/

/-- A part's scratch buffers. -/
def Scr : sProp 𝕄 := iprop(ownE c (part i).rb 0 (7 * (part i).h) ∗ ownE c (part i).ac 0 (4 * (part i).h) ∗ ownE c (part i).st 0 (4 * (part i).h) ∗ ownE c (part i).sb 0 (4 * (part i).h)
  ∗ ownE c (part i).ag 0 (7 * (part i).h))
/-- Its rows of the gathered buffer, its scratch, and its local copies' semaphores. -/
def Loc0 : sProp 𝕄 := iprop(ownE c gM (lo (part i) c 0) (8 * (part i).h) ∗ Scr c i ∗ bigSep Finset.univ fun j : Fin 6 => cv c i j)

/-- All that a part starts from. -/
def PartPre : sProp 𝕄 := iprop(own c xM (lo (part i) c 0) (8 * (part i).h) (Xr m c) ∗ ownE c oM (lo (part i) c 0) (8 * (part i).h) ∗ Loc0 c i ∗ bigSep Finset.univ fun s : Fin 6 => Lk c s i)
/-- All that a part ends with: its rows of the argument as they were, its rows of the result computed. -/
def PartPost : sProp 𝕄 := iprop(own c xM (lo (part i) c 0) (8 * (part i).h) (Xr m c) ∗ own c oM (lo (part i) c 0) (8 * (part i).h) (out m i c) ∗ Loc0 c i ∗ bigSep Finset.univ fun s : Fin 6 => Dn c s i)

/-- A part's holdings dealt to its steps, and the rows it lets the neighbours write. -/
theorem part_deal : PartPre m c i ⊢ iprop(InStart m c i ∗ InSend c i ∗ Lk c 1 i ∗ Lk c 2 i ∗ InR2 c i ∗ InG0 c i ∗ InG1 c i ∗ InG2 c i
    ∗ bigSep Finset.univ fun j : Fin 3 => grant c i j) := by
  unfold PartPre Loc0 Scr InStart InSend InR2 InG0 InG1 InG2 grant
  rw [bs6, bs6, bs3]
  iintro ⟨Hx, Ho, ⟨Hg, ⟨Hrb, Hac, Hst, Hsb, Hag⟩, Hc0, Hc1, Hc2, Hc3, Hc4, Hc5⟩, HL0, HL1, HL2, HL3, HL4, HL5⟩
  ihave Hx' := (own_halve c xM (half1 i c) (show 8 * (part i).h = 4 * (part i).h + 4 * (part i).h by omega) (Xr m c)) $$ Hx
  icases Hx' with ⟨Hx1, Hx0⟩
  ihave Ho' := (ownE_halve c oM (half1 i c) (show 8 * (part i).h = 4 * (part i).h + 4 * (part i).h by omega)) $$ Ho
  icases Ho' with ⟨Ho, Ho0⟩
  ihave Ho' := (ownE_halve c oM (half2 i c) (show 4 * (part i).h = 2 * (part i).h + 2 * (part i).h by omega)) $$ Ho
  icases Ho' with ⟨Ho, Ho1⟩
  ihave Ho' := (ownE_halve c oM (half3 i c) (show 2 * (part i).h = (part i).h + (part i).h by omega)) $$ Ho
  icases Ho' with ⟨Ho3, Ho2⟩
  ihave Hg' := (ownE_halve c gM (half1 i c) (show 8 * (part i).h = 4 * (part i).h + 4 * (part i).h by omega)) $$ Hg
  icases Hg' with ⟨Hg, Hg0⟩
  ihave Hg' := (ownE_halve c gM (half2 i c) (show 4 * (part i).h = 2 * (part i).h + 2 * (part i).h by omega)) $$ Hg
  icases Hg' with ⟨Hg, Hg1⟩
  ihave Hg' := (ownE_halve c gM (half3 i c) (show 2 * (part i).h = (part i).h + (part i).h by omega)) $$ Hg
  icases Hg' with ⟨Hg3, Hg2⟩
  ihave Hrb' := (ownE_cut c (part i).rb (show 7 * (part i).h = 4 * (part i).h + (2 * (part i).h + (part i).h) by omega) (show 4 * (part i).h = 0 + 4 * (part i).h by omega)) $$ Hrb
  icases Hrb' with ⟨Hrb0, Hrb⟩
  ihave Hrb' := (ownE_cut c (part i).rb (show 2 * (part i).h + (part i).h = 2 * (part i).h + (part i).h from rfl) (show 4 * (part i).h + 2 * (part i).h = 4 * (part i).h + 2 * (part i).h from rfl)) $$ Hrb
  icases Hrb' with ⟨Hrb1, Hrb2⟩
  ihave Hag' := (ownE_cut c (part i).ag (show 7 * (part i).h = (part i).h + (2 * (part i).h + 4 * (part i).h) by omega) (show (part i).h = 0 + (part i).h by omega)) $$ Hag
  icases Hag' with ⟨Hag0, Hag⟩
  ihave Hag' := (ownE_cut c (part i).ag (show 2 * (part i).h + 4 * (part i).h = 2 * (part i).h + 4 * (part i).h from rfl) (show (part i).h + 2 * (part i).h = (part i).h + 2 * (part i).h from rfl)) $$ Hag
  icases Hag' with ⟨Hag1, Hag2⟩
  isplitl [Hx1 Hx0 Hac Hst Hc0 Hc2]
  · isplitl [Hx1]; · iexact Hx1
    isplitl [Hx0]; · iexact Hx0
    isplitl [Hac]; · iexact Hac
    isplitl [Hst]; · iexact Hst
    isplitl [Hc0] <;> iassumption
  isplitl [Hsb HL0]
  · isplitl [Hsb] <;> iassumption
  isplitl [HL1]; · iexact HL1
  isplitl [HL2]; · iexact HL2
  isplitl [Hg3 Ho3 Hc1 HL3]
  · isplitl [Hg3]; · iexact Hg3
    isplitl [Ho3]; · iexact Ho3
    isplitl [Hc1] <;> iassumption
  isplitl [Hag0 Ho2 Hc3 HL4]
  · isplitl [Hag0]; · iexact Hag0
    isplitl [Ho2]; · iexact Ho2
    isplitl [Hc3] <;> iassumption
  isplitl [Hag1 Ho1 Hc4 HL5]
  · isplitl [Hag1]; · iexact Hag1
    isplitl [Ho1]; · iexact Ho1
    isplitl [Hc4] <;> iassumption
  isplitl [Hag2 Ho0 Hc5]
  · isplitl [Hag2]; · iexact Hag2
    isplitl [Ho0] <;> iassumption
  isplitl [Hrb0 Hg0]
  · isplitl [Hrb0]; · iexact Hrb0
    iexact Hg0
  isplitl [Hrb1 Hg1]
  · isplitl [Hrb1]; · iexact Hrb1
    iexact Hg1
  isplitl [Hrb2]; · iexact Hrb2
  iexact Hg2

/-- What its steps leave makes its holdings again, the result's rows written. -/
theorem part_gather : iprop(ReSend m c i ∗ ReR0 m c i ∗ ReR1 c i ∗ EnR2 m c i ∗ EnG0 m c i ∗ EnG1 m c i ∗ EnG2 m c i) ⊢ PartPost m c i := by
  unfold PartPost Loc0 Scr ReSend ReR0 ReR1 EnR2 EnG0 EnG1 EnG2
  rw [bs6, bs6]
  iintro ⟨⟨Hx0, Hst, Hc2⟩, ⟨HD0, Hrb0, Hx1, Hc0⟩, ⟨HD1, Hrb1, Hac2⟩, ⟨HD2, Hrb2, Hsb, Hac1, Ho3, Hac0, Hc1⟩, ⟨HD3, Ho2, Hag0, Hc3⟩,
    ⟨HD4, Ho1, Hag1, Hc4⟩, ⟨HD5, Hg1, Hg0, Ho0, Hag2, Hc5⟩⟩
  ihave Hx := (own_halves c xM (half1 i c) (show 8 * (part i).h = 4 * (part i).h + 4 * (part i).h by omega) (Xr m c)) $$ [Hx1 Hx0]
  · isplitl [Hx1] <;> iassumption
  ihave Hg := (own_halves c gM (half1 i c) (show 8 * (part i).h = 4 * (part i).h + 4 * (part i).h by omega) (gat m i)) $$ [Hg1 Hg0]
  · isplitl [Hg1] <;> iassumption
  ihave Ho := (own_halves c oM (half3 i c) (show 2 * (part i).h = (part i).h + (part i).h by omega) (out m i c)) $$ [Ho3 Ho2]
  · isplitl [Ho3] <;> iassumption
  ihave Ho := (own_halves c oM (half2 i c) (show 4 * (part i).h = 2 * (part i).h + 2 * (part i).h by omega) (out m i c)) $$ [Ho Ho1]
  · isplitl [Ho] <;> iassumption
  ihave Ho := (own_halves c oM (half1 i c) (show 8 * (part i).h = 4 * (part i).h + 4 * (part i).h by omega) (out m i c)) $$ [Ho Ho0]
  · isplitl [Ho] <;> iassumption
  ihave Hrb := (ownE_glue c (part i).rb (show 2 * (part i).h + (part i).h = 2 * (part i).h + (part i).h from rfl) (show 4 * (part i).h + 2 * (part i).h = 4 * (part i).h + 2 * (part i).h from rfl)) $$ [Hrb1 Hrb2]
  · isplitl [Hrb1] <;> iassumption
  ihave Hrb := (ownE_glue c (part i).rb (show 7 * (part i).h = 4 * (part i).h + (2 * (part i).h + (part i).h) by omega) (show 4 * (part i).h = 0 + 4 * (part i).h by omega)) $$ [Hrb0 Hrb]
  · isplitl [Hrb0] <;> iassumption
  ihave Hag := (ownE_glue c (part i).ag (show 2 * (part i).h + 4 * (part i).h = 2 * (part i).h + 4 * (part i).h from rfl) (show (part i).h + 2 * (part i).h = (part i).h + 2 * (part i).h from rfl)) $$ [Hag1 Hag2]
  · isplitl [Hag1] <;> iassumption
  ihave Hag := (ownE_glue c (part i).ag (show 7 * (part i).h = (part i).h + (2 * (part i).h + 4 * (part i).h) by omega) (show (part i).h = 0 + (part i).h by omega)) $$ [Hag0 Hag]
  · isplitl [Hag0] <;> iassumption
  ihave Hac := (ownE_back c (part i).ac (show (part i).h ≤ 2 * (part i).h by omega)) $$ [Hac0 Hac1]
  · isplitl [Hac0] <;> iassumption
  ihave Hac := (ownE_back c (part i).ac (part i).le2) $$ [Hac Hac2]
  · isplitl [Hac] <;> iassumption
  isplitl [Hx]; · iexact Hx
  isplitl [Ho]; · iexact Ho
  isplitr [HD0 HD1 HD2 HD3 HD4 HD5]
  · isplitl [Hg]; · iapply (ownE_intro c gM _ _ _) $$ Hg
    isplitl [Hrb Hac Hst Hsb Hag]
    · isplitl [Hrb]; · iexact Hrb
      isplitl [Hac]; · iexact Hac
      isplitl [Hst]; · iexact Hst
      isplitl [Hsb] <;> iassumption
    isplitl [Hc0]; · iexact Hc0
    isplitl [Hc1]; · iexact Hc1
    isplitl [Hc2]; · iexact Hc2
    isplitl [Hc3]; · iexact Hc3
    isplitl [Hc4] <;> iassumption
  isplitl [HD0]; · iexact HD0
  isplitl [HD1]; · iexact HD1
  isplitl [HD2]; · iexact HD2
  isplitl [HD3]; · iexact HD3
  isplitl [HD4] <;> iassumption

end parts

/-! ## The barrier -/

/-- The axes in the order a part takes them. -/
def axes (i : Fin 6) : Fin 3 ≃ Fin 3 where
  toFun := (part i).ax
  invFun := phOf i
  left_inv j := phOf_ax i j
  right_inv a := by revert i a; decide +kernel

section bar
variable (m : (ℓ : Loc nD τ sig) → Buf (Elt F) ℓ) (κ : Dev nD × Cl → ℕ) (c : Dev nD)

omit [FloatOps F] in
/-- What the parts let the neighbours write, by axis. -/
theorem grants_out : (bigSep Finset.univ fun i : Fin 6 => bigSep Finset.univ fun j : Fin 3 => grant (F := F) c i j) = bigSep Finset.univ fun a : Fin 3 => barPay c a := by
  unfold barPay
  rw [bsSwap (fun (a : Fin 3) (i : Fin 6) => grant (F := F) c i (phOf i a))]
  exact bigSep_congr fun i _ => bigSep_univ_equiv (axes i).symm (fun j => grant c i j)

omit [FloatOps F] in
/-- What the neighbours let a device write, by part and phase. -/
theorem grants_in : (bigSep Finset.univ fun a : Fin 3 => barPay (F := F) (nbr c a) a)
    = bigSep Finset.univ fun i : Fin 6 => bigSep Finset.univ fun j : Fin 3 => iprop(Grb c i j ∗ Ggm c i j) := by
  unfold barPay
  rw [bsSwap]
  refine bigSep_congr fun i _ => (bigSep_univ_equiv (axes i) (fun a => grant (nbr c a) i (phOf i a))).trans (bigSep_congr fun j _ => ?_)
  show grant (nbr c ((part i).ax j)) i (phOf i ((part i).ax j)) = _
  rw [phOf_ax]
  rfl

/-- What the barrier needs of a device's ghost holdings. -/
def BarL : sProp 𝕄 := iprop((bigSep Finset.univ fun a : Fin 3 => dutyTok ER (cell (nbr c a) none) 0 a)
  ∗ atPos ER (cell c none) 0 ∅ 0 ∗ cred (tallyAt (cell c none) () 3))

/-- A signal along an axis. -/
theorem wp_sig (a : Fin 3) (O O' : CellTallies nD τ sig Unit) (hO : O' = O + tallyAt (cell (nbr c a) none) () 1) (Q : PUnit → sProp 𝕄) :
    iprop(Ctx m κ ∗ dutyTok ER (cell (nbr c a) none) 0 a ∗ barPay c a ∗ OW c O' ∗ (OW c O -∗ Q ⟨⟩)) ⊢ WP c (semSignalWord (nbr c a) barS 1#32) Q := by
  subst hO
  simp only [semSignalWord, Prog.lift]
  unfold OW
  iintro ⟨#HC, Ht, Hp, ⟨%W, HO⟩, HQ⟩
  iapply (Rounds.wp_signal 𝒱₀ ER (Rd m) (c : Thread nD τ) none (dst := (nbr c a : Thread nD τ)) (κ := κ (nbr c a, none))
      (d := a) (show a ∈ (Rd m).duties (cell (nbr c a) none) 0 by rw [duties_bar]; exact Finset.mem_univ _) ((amount_bar m (nbr c a) a).trans (by decide)) () O rfl (W := W))
    $$ [HO Ht Hp]
  · isplitr; · iapply (ctx_inv m κ (nbr c a, none)); iexact HC
    isplitl [HO]; · iexact HO
    isplitl [Ht]; · iexact Ht
    isplitl [Hp]
    · iapply (show barPay c a ⊢ (Rd m).payload ((nbr c a : Thread nD τ), SemLoc.reg barS) 0 a from
        Entails.of_eq (show barPay c a = (Rd m).payload (cell (nbr c a) none) 0 a by rw [payload_bar, nbr_nbr])) $$ Hp
    iapply (ctx_reached m κ (nbr c a, none)); iexact HC
  iintro HO
  rw [wp_ret]
  imodintro
  iapply HQ
  iexists W
  iexact HO

/-- The barrier: a device gives its neighbours their grants, and gets theirs. -/
theorem wp_barP (Q : PUnit → sProp 𝕄) :
    iprop(Ctx m κ ∗ BarL c ∗ (bigSep Finset.univ fun a : Fin 3 => barPay c a) ∗ OW c (O₀ c)
        ∗ (iprop(semVal (cell c none) 0 ∗ (bigSep Finset.univ fun a : Fin 3 => barPay (nbr c a) a) ∗ OW c (owed c 0)) -∗ Q ⟨⟩)) ⊢ WP c (barP c) Q := by
  unfold BarL barP
  rw [bs3, bs3]
  iintro ⟨#HC, ⟨⟨Ht0, Ht1, Ht2⟩, Ha, Hc⟩, ⟨Hp0, Hp1, Hp2⟩, HO, HQ⟩
  iapply wpBind
  iapply (wp_sig m κ c 0 (owed c 0 + tallyAt (cell (nbr c 2) none) () 1 + tallyAt (cell (nbr c 1) none) () 1) (O₀ c) rfl)
  isplitr; · iexact HC
  isplitl [Ht0]; · iexact Ht0
  isplitl [Hp0]; · iexact Hp0
  isplitl [HO]; · iexact HO
  iintro HO
  iapply wpBind
  iapply (wp_sig m κ c 1 (owed c 0 + tallyAt (cell (nbr c 2) none) () 1) _ rfl)
  isplitr; · iexact HC
  isplitl [Ht1]; · iexact Ht1
  isplitl [Hp1]; · iexact Hp1
  isplitl [HO]; · iexact HO
  iintro HO
  iapply wpBind
  iapply (wp_sig m κ c 2 (owed c 0) _ rfl)
  isplitr; · iexact HC
  isplitl [Ht2]; · iexact Ht2
  isplitl [Hp2]; · iexact Hp2
  isplitl [HO]; · iexact HO
  iintro HO
  unfold OW
  icases HO with ⟨%W, HO⟩
  simp only [semWaitWord, Prog.lift]
  iapply (Rounds.wp_wait_rest_token 𝒱₀ ER (Rd m) (c : Thread nD τ) none (κ := κ (c, none))
      (wpE_semWait_eq 𝒱₀ (c : Thread nD τ) none Set.univ) (Set.mem_univ _) () (O := owed c 0) (W := W) (R := 0) (m := 0) (T := ∅)
      ((Nat.zero_add _).trans (expect_bar m c).symm)) $$ [Hc HO Ha]
  · isplitr; · iapply (ctx_inv m κ (c, none)); iexact HC
    isplitl [Hc]; · iexact Hc
    isplitl [HO]; · iexact HO
    isplitr
    · iapply (ctx_mayWait m κ c (.reg barS) 0 (by show 1 < 0 / 6 + 2; decide)); iexact HC
    iexact Ha
  iintro ⟨HO, Ha, -, Hp⟩
  rw [wp_ret]
  ihave Hp' := (show bigSep ((Rd m).duties ((c : Thread nD τ), SemLoc.reg barS) 0 \ ∅) (fun d => (Rd m).payload ((c : Thread nD τ), SemLoc.reg barS) 0 d)
      ⊢ bigSep Finset.univ fun a : Fin 3 => barPay (nbr c a) a from Entails.of_eq (rest_bar m c)) $$ Hp
  imod (Rounds.cell_close ER (Rd m) (Set.mem_univ (κ (c, none))) (fun h => h) (R := 0 + 1) (duties_later m (cell c none))) $$ [Ha] with Hz
  · isplitr; · iapply (ctx_inv m κ (c, none)); iexact HC
    iexact Ha
  imodintro
  iapply HQ
  isplitl [Hz]; · iexact Hz
  isplitl [Hp']; · iexact Hp'
  iexists _
  iexact HO

/-! ## The body -/

/-- What the body does with the six parts' holdings: every part's rows end as they should, with nothing owed. -/
theorem wp_run (Q : PUnit → sProp 𝕄) :
    iprop(Ctx m κ ∗ BarL c ∗ (bigSep Finset.univ fun i : Fin 6 => PartPre m c i) ∗ OW c (O₀ c)
        ∗ (iprop(semVal (cell c none) 0 ∗ (bigSep Finset.univ fun i : Fin 6 => PartPost m c i) ∗ OW c 0) -∗ Q ⟨⟩)) ⊢ WP c (run c) Q := by
  unfold run
  iintro ⟨#HC, HB, HP, HO, HQ⟩
  ihave HP' := (bsMono fun i => part_deal m c i) $$ HP
  simp only [bigSep_sep', grants_out]
  icases HP' with ⟨H0, HI1, HI2, HI3, HI4, HI5, HI6, HI7, Hgr⟩
  iapply wpBind
  iapply (wp_each (Ctx m κ) c _ _ _ (fun n => O₀ c) (fun i Q => wp_stepStart m κ c i (O₀ c) Q))
  isplitr; · iexact HC
  isplitl [H0]; · iexact H0
  isplitl [HO]; · iexact HO
  iintro ⟨H1, HO⟩
  iapply wpBind
  iapply (wp_barP m κ c)
  isplitr; · iexact HC
  isplitl [HB]; · iexact HB
  isplitl [Hgr]; · iexact Hgr
  isplitl [HO]; · iexact HO
  rw [grants_in]
  simp only [bs3, bigSep_sep']
  iintro ⟨Hbar, ⟨⟨Hr0, Hr1, Hr2⟩, Hg0, Hg1, Hg2⟩, HO⟩
  iapply wpBind
  iapply (wp_each (Ctx m κ) c _ _ _ (fun n => owed c (6 * (0 : Fin 6) + n)) (fun i Q => wp_stepSend m κ c i  Q))
  isplitr; · iexact HC
  isplitl [H1 HI1 Hr0]
  · simp only [bigSep_sep']
    isplitl [H1]; · iexact H1
    isplitl [HI1]; · iexact HI1
    iexact Hr0
  isplitl [HO]; · iexact HO
  simp only [bigSep_sep']
  iintro ⟨⟨H2, E1⟩, HO⟩
  iapply wpBind
  iapply (wp_each (Ctx m κ) c _ _ _ (fun n => owed c (6 * (1 : Fin 6) + n)) (fun i Q => wp_stepR0 m κ c i  Q))
  isplitr; · iexact HC
  isplitl [H2 HI2 Hr1]
  · simp only [bigSep_sep']
    isplitl [H2]; · iexact H2
    isplitl [HI2]; · iexact HI2
    iexact Hr1
  isplitl [HO]; · iexact HO
  simp only [bigSep_sep']
  iintro ⟨⟨H3, E2⟩, HO⟩
  iapply wpBind
  iapply (wp_each (Ctx m κ) c _ _ _ (fun n => owed c (6 * (2 : Fin 6) + n)) (fun i Q => wp_stepR1 m κ c i  Q))
  isplitr; · iexact HC
  isplitl [H3 HI3 Hr2]
  · simp only [bigSep_sep']
    isplitl [H3]; · iexact H3
    isplitl [HI3]; · iexact HI3
    iexact Hr2
  isplitl [HO]; · iexact HO
  simp only [bigSep_sep']
  iintro ⟨⟨H4, E3⟩, HO⟩
  iapply wpBind
  iapply (wp_each (Ctx m κ) c _ _ _ (fun n => owed c (6 * (3 : Fin 6) + n)) (fun i Q => wp_stepR2 m κ c i  Q))
  isplitr; · iexact HC
  isplitl [H4 HI4 Hg2]
  · simp only [bigSep_sep']
    isplitl [H4]; · iexact H4
    isplitl [HI4]; · iexact HI4
    iexact Hg2
  isplitl [HO]; · iexact HO
  simp only [bigSep_sep']
  iintro ⟨⟨H5, E4⟩, HO⟩
  iapply wpBind
  iapply (wp_each (Ctx m κ) c _ _ _ (fun n => owed c (6 * (4 : Fin 6) + n)) (fun i Q => wp_stepG0 m κ c i  Q))
  isplitr; · iexact HC
  isplitl [H5 HI5 Hg1]
  · simp only [bigSep_sep']
    isplitl [H5]; · iexact H5
    isplitl [HI5]; · iexact HI5
    iexact Hg1
  isplitl [HO]; · iexact HO
  simp only [bigSep_sep']
  iintro ⟨⟨H6, E5⟩, HO⟩
  iapply wpBind
  iapply (wp_each (Ctx m κ) c _ _ _ (fun n => owed c (6 * (5 : Fin 6) + n)) (fun i Q => wp_stepG1 m κ c i  Q))
  isplitr; · iexact HC
  isplitl [H6 HI6 Hg0]
  · simp only [bigSep_sep']
    isplitl [H6]; · iexact H6
    isplitl [HI6]; · iexact HI6
    iexact Hg0
  isplitl [HO]; · iexact HO
  simp only [bigSep_sep']
  iintro ⟨⟨H7, E6⟩, HO⟩
  iapply wpBind
  iapply (wp_each (Ctx m κ) c _ _ _ (fun n => owed c 36) (fun i Q => wp_stepG2 m κ c i  Q))
  isplitr; · iexact HC
  isplitl [H7 HI7]
  · simp only [bigSep_sep']
    isplitl [H7]; · iexact H7
    iexact HI7
  isplitl [HO]; · iexact HO
  iintro ⟨E7, HO⟩
  iapply wpBind
  iapply (wp_each (Ctx m κ) c _ _ _ (fun n => owed c 36) (fun i Q => wp_stepO0 m κ c i  Q))
  isplitr; · iexact HC
  isplitl [E4]; · iexact E4
  isplitl [HO]; · iexact HO
  iintro ⟨E4, HO⟩
  iapply wpBind
  iapply (wp_each (Ctx m κ) c _ _ _ (fun n => owed c 36) (fun i Q => wp_stepO1 m κ c i  Q))
  isplitr; · iexact HC
  isplitl [E5]; · iexact E5
  isplitl [HO]; · iexact HO
  iintro ⟨E5, HO⟩
  iapply wpBind
  iapply (wp_each (Ctx m κ) c _ _ _ (fun n => owed c 36) (fun i Q => wp_stepO2 m κ c i  Q))
  isplitr; · iexact HC
  isplitl [E6]; · iexact E6
  isplitl [HO]; · iexact HO
  iintro ⟨E6, HO⟩
  iapply (wp_each (Ctx m κ) c _ _ _ (fun n => owed c 36) (fun i Q => wp_stepO3 m κ c i  Q))
  isplitr; · iexact HC
  isplitl [E7]; · iexact E7
  isplitl [HO]; · iexact HO
  iintro ⟨E7, HO⟩
  iapply HQ
  isplitl [Hbar]; · iexact Hbar
  isplitr [HO]
  · iapply (bsMono fun i => part_gather m c i)
    simp only [bigSep_sep']
    isplitl [E1]; · iexact E1
    isplitl [E2]; · iexact E2
    isplitl [E3]; · iexact E3
    isplitl [E4]; · iexact E4
    isplitl [E5]; · iexact E5
    isplitl [E6] <;> iassumption
  · rw [← owed_end c]; iexact HO

end bar

end Cert.AllReduce

end
-- ==== Proof.Deal.lean ====
/-
What the launch deals.

The launch makes every cell of every device and the tokens of its duties. The counters become the
cells' invariants, shared by all the devices; each token goes to the device that pays its duty, which
is the cell's own device, or its neighbour along an axis; and what the devices owe one another at
launch is, cell by cell, the credit that the cell's device waits with.
-/
module

public import proofs.«01_k».proof.Proof.Body

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Iterated holdings -/

omit [FloatOps F] in
/-- Over a device's cells: the barrier's, and the others. -/
theorem bsCl (Φ : Cl → sProp 𝕄) : bigSep Finset.univ Φ = iprop(Φ none ∗ bigSep Finset.univ fun x => Φ (some x)) := by
  rw [bigSep_univ_at Φ none, show (Finset.univ : Finset Cl).erase none = Finset.univ.map Function.Embedding.some from by
    ext x; cases x <;> simp, bigSep_map]
  rfl

omit [FloatOps F] in
/-- Over the ends of the transfers: part by part, transfer by transfer, both ends. -/
theorem bsEnds (Φ : Bool × Fin 6 × Fin 6 → sProp 𝕄) :
    bigSep Finset.univ Φ = bigSep Finset.univ fun i : Fin 6 => bigSep Finset.univ fun s : Fin 6 => iprop(Φ (false, i, s) ∗ Φ (true, i, s)) := by
  rw [bigSep_univ_prod, bigSep_univ_eq_bigSepL [false, true] (by decide) (by decide)]
  show iprop((bigSep Finset.univ fun p : Fin 6 × Fin 6 => Φ (false, p)) ∗ bigSep Finset.univ fun p : Fin 6 × Fin 6 => Φ (true, p)) = _
  rw [bigSep_univ_prod, bigSep_univ_prod]
  simp only [bigSep_sep']

omit [FloatOps F] in
/-- Handing each of a family around by a permutation of the devices. -/
theorem bsAround {ι : Type} [Fintype ι] [DecidableEq ι] (π : ι → Dev nD ≃ Dev nD) (Φ : Dev nD → ι → sProp 𝕄) :
    (bigSep Finset.univ fun c : Dev nD => bigSep Finset.univ fun k => Φ c k)
      = bigSep Finset.univ fun c : Dev nD => bigSep Finset.univ fun k => Φ (π k c) k := by
  rw [bsSwap, bsSwap fun (c : Dev nD) k => Φ (π k c) k]
  exact bigSep_congr fun k _ => bigSep_univ_equiv (π k) _

omit [FloatOps F] in
/-- What may be copied goes to every member. -/
theorem bsWith {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A neighbour's neighbour along the same axis is the device itself. -/
def across (a : Fin 3) : Dev nD ≃ Dev nD := ⟨fun c => nbr c a, fun c => nbr c a, fun c => nbr_nbr c a, fun c => nbr_nbr c a⟩

/-! ## Cells and tokens -/

/-- A cell's device and its place are told by the cell. -/
theorem cell_inj {c c' : Dev nD} {k k' : Cl} (h : cell c k = cell c' k') : c = c' ∧ k = k' :=
  ⟨congrArg (fun g : GSem nD τ sig => g.1.1) h, semOf_injective (congrArg (fun g : GSem nD τ sig => g.2) h)⟩

/-- Different places are different cells. -/
theorem cells_injective : Function.Injective fun x : Dev nD × Cl => cell x.1 x.2 := fun x y h =>
  Prod.ext (cell_inj h).1 (cell_inj h).2

/-- All the cells. -/
def allCells : Finset (GSem nD τ sig) := Finset.univ.map ⟨fun x : Dev nD × Cl => cell x.1 x.2, cells_injective⟩

/-- A device's duties as made: its barrier's, one per axis, and one for each end of its transfers. -/
def tokOf (x : Dev nD × (Fin 3 ⊕ (Bool × Fin 6 × Fin 6))) : GSem nD τ sig × ℕ × Fin 3 := match x.2 with
  | .inl a => (cell x.1 none, 0, a)
  | .inr y => (cell x.1 (some y), 0, 0)

/-- Different duties have different tokens. -/
theorem tokOf_injective : Function.Injective tokOf := by
  rintro ⟨c, k⟩ ⟨c', k'⟩ h
  rcases k with a | y <;> rcases k' with a' | y'
  · have h1 := cell_inj (congrArg (fun x : GSem nD τ sig × ℕ × Fin 3 => x.1) h)
    have h2 : a = a' := congrArg (fun x : GSem nD τ sig × ℕ × Fin 3 => x.2.2) h
    exact Prod.ext h1.1 (congrArg Sum.inl h2)
  · exact absurd (cell_inj (congrArg (fun x : GSem nD τ sig × ℕ × Fin 3 => x.1) h)).2 (by simp)
  · exact absurd (cell_inj (congrArg (fun x : GSem nD τ sig × ℕ × Fin 3 => x.1) h)).2 (by simp)
  · have h1 := cell_inj (congrArg (fun x : GSem nD τ sig × ℕ × Fin 3 => x.1) h)
    exact Prod.ext h1.1 (congrArg Sum.inr (Option.some.inj h1.2))

/-- All the tokens. -/
def allToks : Finset (GSem nD τ sig × ℕ × Fin 3) := Finset.univ.map ⟨tokOf, tokOf_injective⟩

/-- The launch's element: the pipeline's rounds, the exchange's, and no counter. -/
def u₀ : UU := (initOf (Pipeline.cells cfgs cellOf_inj) (Pipeline.launchToks cfgs cellOf_inj), (initOf allCells allToks, 1))

variable (m : (ℓ : Loc nD τ sig) → Buf (Elt F) ℓ)

/-- The tokens of device `c`'s own cells. -/
def toks (c : Dev nD) : sProp 𝕄 :=
  iprop((bigSep Finset.univ fun a : Fin 3 => dutyTok ER (cell c none) 0 a)
    ∗ bigSep Finset.univ fun x : Bool × Fin 6 × Fin 6 => dutyTok ER (cell c (some x)) 0 0)

/-- What is made for device `c`. -/
def G (c : Dev nD) : sProp 𝕄 :=
  iprop((bigSep Finset.univ fun k : Cl => roundState ER (Rd m) (cell c k) 0)
    ∗ (bigSep Finset.univ fun k : Cl => iprop(atPos ER (cell c k) 0 ∅ 0 ∗ reached ER (cell c k) 0)) ∗ toks c)

/-- What device `c` holds of one transfer of a part, but the credit. -/
def Ps (c : Dev nD) (i s : Fin 6) : sProp 𝕄 :=
  iprop((atPos ER (cell c (some (false, i, s))) 0 ∅ 0 ∗ atPos ER (cell c (some (true, i, s))) 0 ∅ 0)
    ∗ dutyTok ER (cell c (some (false, i, s))) 0 0 ∗ dutyTok ER (cell (peer c i s) (some (true, i, s))) 0 0)

/-- What stays with device `c`: its positions, and the tokens of the duties it pays. -/
def lin (c : Dev nD) : sProp 𝕄 :=
  iprop(atPos ER (cell c none) 0 ∅ 0 ∗ (bigSep Finset.univ fun a : Fin 3 => dutyTok ER (cell (nbr c a) none) 0 a)
    ∗ bigSep Finset.univ fun i : Fin 6 => bigSep Finset.univ fun s : Fin 6 => Ps c i s)

/-- What the launch hands device `c`: the shared records, and what stays with it. -/
def G' (c : Dev nD) : sProp 𝕄 := iprop(∃ κ, records m κ ∗ lin c)

/-- Everything made at launch, device by device. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cl => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The tokens dealt to the devices that pay. -/
theorem toks_around : (bigSep Finset.univ fun c : Dev nD => (toks c : sProp 𝕄))
    = iprop((bigSep Finset.univ fun c : Dev nD => bigSep Finset.univ fun a : Fin 3 => dutyTok ER (cell (nbr c a) none) 0 a)
      ∗ bigSep Finset.univ fun c : Dev nD => bigSep Finset.univ fun i : Fin 6 => bigSep Finset.univ fun s : Fin 6 =>
          iprop(dutyTok ER (cell c (some (false, i, s))) 0 0 ∗ dutyTok ER (cell (peer c i s) (some (true, i, s))) 0 0)) := by
  unfold toks
  rw [bigSep_sep', bsAround across fun (c : Dev nD) a => (dutyTok ER (cell c none) 0 a : sProp 𝕄),
    bsAround (fun x : Bool × Fin 6 × Fin 6 => if x.1 then across ((part x.2.1).ax (phs x.2.2)) else Equiv.refl _)
      fun (c : Dev nD) x => (dutyTok ER (cell c (some x)) 0 0 : sProp 𝕄)]
  congr 1
  exact bigSep_congr fun c _ => bsEnds _

/-! ## The counters become invariants -/

/-- The kernel's own semaphores: the senders', the receivers', the local copies'. -/
def osem (k : Fin 3 × Fin 6 × Fin 6) : SemLoc sig := match k.1 with
  | 0 => .dma (sS k.2.1 k.2.2)
  | 1 => .dma (rS k.2.1 k.2.2)
  | 2 => .dma (cS k.2.1 k.2.2)

/-- Where a semaphore of the kernel's stands among its own. -/
def osemAt : SemLoc sig → ℕ
  | .reg _ => 0
  | .dma q => q.val

/-- The semaphore at a place is told to stand there. -/
theorem osemAt_osem : ∀ (a : Fin 3) (i j : Fin 6), osemAt (osem (a, i, j)) = 36 * a + 6 * i + j := by decide +kernel

/-- Different places are different semaphores. -/
theorem osem_injective : Function.Injective osem := by
  rintro ⟨a, i, j⟩ ⟨a', i', j'⟩ h
  have h := congrArg osemAt h
  rw [osemAt_osem, osemAt_osem] at h
  have h1 : a = a' := Fin.ext (by omega)
  have h2 : i = i' := Fin.ext (by omega)
  have h3 : j = j' := Fin.ext (by omega)
  rw [h1, h2, h3]

/-- The kernel's own semaphores are those listed. -/
theorem ownSemFacts : Pipeline.OwnSemFacts cfg0.spec osem where
  isScoped := by decide +kernel
  inj := osem_injective
  disj := fun _ w => w.elim0

/-- The local copies' counters, part by part. -/
def cvs (c : Dev nD) (i : Fin 6) : sProp 𝕄 := bigSep Finset.univ fun j : Fin 6 => semVal ((c : Thread nD τ), .dma (cS i j)) 0

/-- All of them at zero, sorted into the transfers' and the local copies'. -/
theorem ownSems0_eq (c : Dev nD) : (Pipeline.ownSems0 (Ix := Unit) (Name := ℕ) (U := UU) (Lvl := ℕ) (Val := Elt F) (τ := τ) osem c : sProp 𝕄)
    = iprop((bigSep Finset.univ fun i : Fin 6 => bigSep Finset.univ fun s : Fin 6 => Dn c s i) ∗ bigSep Finset.univ fun i : Fin 6 => cvs c i) := by
  unfold Pipeline.ownSems0 Dn cvs
  rw [bigSep_univ_prod, bs3]
  simp only [bigSep_univ_prod, bigSep_sep']
  have h (A B C : sProp 𝕄) : iprop((A ∗ B) ∗ C) = iprop(A ∗ B ∗ C) := equiv_iff.mp ⟨BI.sep_assoc, BI.sep_assoc'⟩
  rw [h]
  rfl

/-- The barrier's counter is the launch's one other. -/
theorem unscopedSems0_eq (c : Dev nD) : (unscopedSems0 c : sProp 𝕄) = semVal (cell c none) 0 := by
  unfold unscopedSems0; rw [bigSep_eq_bigSepL_of_eq [SemLoc.reg barS] (by decide) (by decide)]; rfl

/-- The transfers' counters and the barrier's are the cells' counters. -/
theorem sems_cells (c : Dev nD) :
    iprop((bigSep Finset.univ fun i : Fin 6 => bigSep Finset.univ fun s : Fin 6 => Dn c s i) ∗ semVal (cell c none) 0)
      ⊢ (bigSep Finset.univ fun k : Cl => semVal (cell c k) 0 : sProp 𝕄) := by
  rw [bsCl, bsEnds]
  iintro ⟨H1, H2⟩
  isplitl [H2]; · iexact H2
  iexact H1

/-- A device's counters and rounds become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (Rd m) κ (cell c k)))
          ∗ (bigSep Finset.univ fun k : Cl => iprop(atPos ER (cell c k) 0 ∅ 0 ∗ reached ER (cell c k) 0)) ∗ toks c ∗ bigSep Finset.univ fun i : Fin 6 => cvs c i) := by
  unfold G
  rw [ownSems0_eq, unscopedSems0_eq]
  iintro ⟨⟨Hos, Hcv⟩, Hus, Hst, Hat, Htok⟩
  ihave Hv := (sems_cells (F := F) c) $$ [Hos Hus]
  · isplitl [Hos] <;> iassumption
  imod (show iprop((bigSep Finset.univ fun k : Cl => semVal (cell c k) 0) ∗ bigSep Finset.univ fun k : Cl => roundState ER (Rd m) (cell c k) 0)
      ⊢ (|={Set.univ}=> bigSep Finset.univ fun k : Cl => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hcv

/-- The invariants' names gathered, the tokens dealt. -/
theorem regroup :
    (bigSep Finset.univ fun c : Dev nD => iprop((bigSep Finset.univ fun k : Cl => iprop(∃ κ : ℕ, cellInv ER (Rd m) κ (cell c k)))
          ∗ (bigSep Finset.univ fun k : Cl => iprop(atPos ER (cell c k) 0 ∅ 0 ∗ reached ER (cell c k) 0)) ∗ toks c ∗ bigSep Finset.univ fun i : Fin 6 => cvs c i) : sProp 𝕄)
      ⊢ bigSep Finset.univ fun c => iprop(G' m c ∗ bigSep Finset.univ fun i : Fin 6 => cvs c i) := by
  rw [bigSep_sep', bigSep_sep', bigSep_sep', ← bigSep_univ_prod (fun x : Dev nD × Cl => iprop(∃ κ : ℕ, cellInv ER (Rd m) κ (cell x.1 x.2))),
    bigSep_congr (s := Finset.univ) (fun (c : Dev nD) _ => bigSep_sep' Finset.univ (fun k : Cl => (atPos ER (cell c k) 0 ∅ 0 : sProp 𝕄)) (fun k => reached ER (cell c k) 0)),
    bigSep_sep', ← bigSep_univ_prod (fun x : Dev nD × Cl => (reached ER (cell x.1 x.2) 0 : sProp 𝕄)), toks_around,
    bigSep_congr (s := Finset.univ) (fun (c : Dev nD) _ => (bsCl fun k : Cl => (atPos ER (cell c k) 0 ∅ 0 : sProp 𝕄)).trans (by rw [bsEnds])), bigSep_sep',
    bigSep_sep']
  iintro ⟨HI, ⟨⟨HaB, HaX⟩, #HR⟩, ⟨HtB, HtX⟩, Hcv⟩
  ihave HK := (BI.bigSep_exists_pi Finset.univ (fun (x : Dev nD × Cl) (κ : ℕ) => (cellInv ER (Rd m) κ (cell x.1 x.2) : sProp 𝕄))) $$ HI
  icases HK with ⟨%κ, #HI⟩
  isplitr [Hcv]
  · iapply (bsWith (R := records m κ) (Φ := lin) fun c _ => by
      unfold G'
      iintro ⟨#HR, HL⟩
      iexists κ
      isplitr; · iexact HR
      iexact HL)
    isplitr
    · unfold records; isplitl; · iexact HI
      iexact HR
    · unfold lin Ps
      simp only [bigSep_sep']
      icases HaX with ⟨HaX1, HaX2⟩
      icases HtX with ⟨HtX1, HtX2⟩
      isplitl [HaB]; · iexact HaB
      isplitl [HtB]; · iexact HtB
      isplitl [HaX1 HaX2]
      · isplitl [HaX1] <;> iassumption
      isplitl [HtX1] <;> iassumption
  · iexact Hcv

/-- The launch's step over all the devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ fun c => iprop(G' m c ∗ bigSep Finset.univ fun i : Fin 6 => cvs c i) :=
  ((bigSep_mono fun c _ => core_alloc m c).trans (bigSep_fupd _ _)).trans (BI.fupd_mono (regroup m))

/-! ## The launch's credit -/

/-- A device is another's neighbour when the other is its neighbour. -/
theorem nbr_iff (d c : Dev nD) (a : Fin 3) : c = nbr d a ↔ d = nbr c a :=
  ⟨fun h => by rw [h, nbr_nbr], fun h => by rw [h, nbr_nbr]⟩

/-- One duty's share of what is owed to a cell. -/
theorem tally_nbr (d c : Dev nD) (k : Cl) (a : Fin 3) (n : ℕ) :
    (tallyAt (cell (nbr d a) k) () n : CellTallies nD τ sig Unit) (cell c k) () = if d = nbr c a then n else 0 := by
  rw [tallyAt_apply]
  refine if_congr ⟨fun h => (nbr_iff d c a).mp (cell_inj h.1).1, fun h => ⟨?_, rfl⟩⟩ rfl rfl
  rw [← (nbr_iff d c a).mpr h]

/-- What is owed to one cell is nothing to another. -/
theorem tally_other (d c : Dev nD) (k k' : Cl) (h : k ≠ k') (n : ℕ) :
    (tallyAt (cell d k') () n : CellTallies nD τ sig Unit) (cell c k) () = 0 := by
  rw [tallyAt_apply]
  exact if_neg fun h' => h (cell_inj h'.1).2

/-- What a device owes a cell is the sum over its transfers. -/
theorem owed_apply (d : Dev nD) (n : ℕ) (g : GSem nD τ sig) : owed d n g () = ∑ t ∈ Finset.Ico n 36, tal d t g () := by
  unfold owed; rw [Finset.sum_apply, Finsupp.finset_sum_apply]

/-- At the start it owes its three barrier signals besides. -/
theorem O₀_apply (d : Dev nD) (g : GSem nD τ sig) : O₀ d g () = owed d 0 g ()
    + (tallyAt (cell (nbr d 2) none) () 1 : CellTallies nD τ sig Unit) g ()
    + (tallyAt (cell (nbr d 1) none) () 1 : CellTallies nD τ sig Unit) g ()
    + (tallyAt (cell (nbr d 0) none) () 1 : CellTallies nD τ sig Unit) g () := rfl

/-- What a device owes a barrier: a unit for each axis along which it is that device's neighbour. -/
theorem owed_bar (d c : Dev nD) : O₀ d (cell c none) ()
    = (if d = nbr c 2 then 1 else 0) + (if d = nbr c 1 then 1 else 0) + (if d = nbr c 0 then 1 else 0) := by
  rw [O₀_apply, tally_nbr, tally_nbr, tally_nbr, owed_apply,
    Finset.sum_eq_zero (f := fun t => tal d t (cell c none) ()) fun t _ => tally_other _ c none _ (by simp) _, Nat.zero_add]

/-- What a device owes a receiver: the transfer, if it is the one that sends it. -/
theorem owed_recv (d c : Dev nD) (i s : Fin 6) : O₀ d (cell c (some (true, i, s))) () = if d = peer c i s then crd i s else 0 := by
  rw [O₀_apply, tally_other _ _ _ _ (by simp), tally_other _ _ _ _ (by simp), tally_other _ _ _ _ (by simp), owed_apply]
  rw [Finset.sum_eq_single (6 * (s : ℕ) + i)]
  · have h1 : (⟨(6 * (s : ℕ) + i) % 6, Nat.mod_lt _ (by decide)⟩ : Fin 6) = i := Fin.ext (by show (6 * (s : ℕ) + i) % 6 = i; omega)
    have h2 : (⟨(6 * (s : ℕ) + i) / 6 % 6, Nat.mod_lt _ (by decide)⟩ : Fin 6) = s := Fin.ext (by show (6 * (s : ℕ) + i) / 6 % 6 = s; omega)
    unfold tal
    simp only [h1, h2]
    exact tally_nbr d c _ _ _
  · intro t ht hne
    have ht := Finset.mem_Ico.mp ht
    refine tally_other _ c _ _ (fun h => hne ?_) _
    have h' := Option.some.inj h
    have hi : (i : ℕ) = t % 6 := congrArg (fun x : Bool × Fin 6 × Fin 6 => (x.2.1 : ℕ)) h'
    have hs : (s : ℕ) = t / 6 % 6 := congrArg (fun x : Bool × Fin 6 × Fin 6 => (x.2.2 : ℕ)) h'
    omega
  · intro h
    exact absurd (Finset.mem_Ico.mpr ⟨Nat.zero_le _, by omega⟩) h

/-- All that is owed to a barrier at the launch: three. -/
theorem launch_bar (c : Dev nD) :
    tallyOn (cell c none) (launchCredit (Pipeline.owing O₀) 0 (cell c none)) = (tallyAt (cell c none) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nbr c 2) fun _ => 1, Finset.sum_ite_eq' Finset.univ (nbr c 1) fun _ => 1, Finset.sum_ite_eq' Finset.univ (nbr c 0) fun _ => 1,
    if_pos (Finset.mem_univ _), if_pos (Finset.mem_univ _), if_pos (Finset.mem_univ _)]

/-- All that is owed to an arrival at the launch: its transfer's credit. -/
theorem launch_recv (c : Dev nD) (i s : Fin 6) :
    tallyOn (cell c (some (true, i, s))) (launchCredit (Pipeline.owing O₀) 0 (cell c (some (true, i, s))))
      = (tallyAt (cell c (some (true, i, s))) () (crd i s) : CellTallies nD τ sig Unit) := by
  unfold tallyAt; refine congrArg _ (Finsupp.ext fun u => ?_); cases u
  rw [Pipeline.launchCredit_owing, Finsupp.single_eq_same, Finset.sum_congr rfl fun d _ => owed_recv d c i s,
    Finset.sum_ite_eq' Finset.univ (peer c i s) fun _ => crd i s, if_pos (Finset.mem_univ _)]

/-- The credits device `c` waits with. -/
theorem creds (c : Dev nD) : (Pipeline.launchCred O₀ c : sProp 𝕄)
    ⊢ iprop(cred (tallyAt (cell c none) () 3)
      ∗ bigSep Finset.univ fun i : Fin 6 => bigSep Finset.univ fun s : Fin 6 => cred (tallyAt (cell c (some (true, i, s))) () (crd i s))) := by
  unfold Pipeline.launchCred
  refine BIBase.Entails.trans (bigSep_subset (Finset.subset_univ (Finset.univ.map ⟨semOf, semOf_injective⟩))) ?_
  rw [bigSep_map, bsCl, bsEnds]
  refine BIBase.Entails.trans (Q := iprop(cred (tallyOn (cell c none) (launchCredit (Pipeline.owing O₀) 0 (cell c none)))
    ∗ bigSep Finset.univ fun i : Fin 6 => bigSep Finset.univ fun s : Fin 6 =>
      iprop(cred (tallyOn (cell c (some (false, i, s))) (launchCredit (Pipeline.owing O₀) 0 (cell c (some (false, i, s)))))
        ∗ cred (tallyOn (cell c (some (true, i, s))) (launchCredit (Pipeline.owing O₀) 0 (cell c (some (true, i, s)))))))) (Entails.of_eq rfl) ?_
  simp only [launch_bar, launch_recv]
  refine sep_mono_right (bsMono fun i => bsMono fun s => ?_)
  iintro ⟨-, H⟩
  iexact H

end Cert.AllReduce

end
-- ==== Proof.Run.lean ====
/-
The run.

A launch gives each device its two arrays, its scratch and its counters. The arrays are split into the
six parts' rows, the body runs, and the rows are put together again: the argument as it was, the result
at `outAll`, the scratch at some contents, every counter at zero.
-/
module

public import proofs.«01_k».proof.Proof.Deal
public import proofs.«01_k».proof.Proof.Gen.KernelIdeal.Points
public import Idealize.ShloMosaic.Lib.Pipeline.CollectiveSegs

@[expose] public section

noncomputable section

namespace Cert.AllReduce

open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The parts' rows are all the rows -/

/-- The part row `r` belongs to. -/
def pt (r : ℕ) : Fin 6 :=
  if r < 384 then 0 else if r < 768 then 3 else if r < 1152 then 1 else if r < 1408 then 4 else if r < 1792 then 2 else 5

/-- A part's first row, and how many it has. -/
def b0 : Fin 6 → ℕ | 0 => 0 | 1 => 768 | 2 => 1408 | 3 => 384 | 4 => 1152 | 5 => 1792
/-- How many rows a part has. -/
def n0 : Fin 6 → ℕ | 0 => 384 | 1 => 384 | 2 => 384 | 3 => 384 | 4 => 256 | 5 => 256

/-- A part's rows start at its first row. -/
theorem lo0_eq (c : Dev nD) (i : Fin 6) : lo (part i) c 0 = b0 i := by fin_cases i <;> rfl
/-- A part has eight eighths. -/
theorem n0_eq (i : Fin 6) : 8 * (part i).h = n0 i := by fin_cases i <;> rfl

/-- A row of a part belongs to it. -/
theorem pt_eq (i : Fin 6) (r : ℕ) (h1 : b0 i ≤ r) (h2 : r < b0 i + n0 i) : pt r = i := by
  unfold pt
  fin_cases i <;> simp only [b0, n0] at h1 h2 <;> split_ifs <;> first | rfl | omega

section tile
variable {sp : Space} {e : EltTy} (c : Dev nD) (M : Memref sig .tc sp (Sh 2048) e)

omit [FloatOps F] in
/-- All the rows, dealt to the parts. -/
theorem own_parts (X : Arr (Elt F e)) : own c M 0 2048 X ⊢ bigSep Finset.univ fun i : Fin 6 => own (F := F) c M (lo (part i) c 0) (8 * (part i).h) X := by
  simp only [lo0_eq, n0_eq]
  rw [bs6]
  simp only [b0, n0]
  iintro H
  ihave H := (own_split c M 0 384 1664 X) $$ H
  icases H with ⟨H0, H⟩
  ihave H := (own_split c M 384 384 1280 X) $$ H
  icases H with ⟨H3, H⟩
  ihave H := (own_split c M 768 384 896 X) $$ H
  icases H with ⟨H1, H⟩
  ihave H := (own_split c M 1152 256 640 X) $$ H
  icases H with ⟨H4, H⟩
  ihave H := (own_split c M 1408 384 256 X) $$ H
  icases H with ⟨H2, H5⟩
  isplitl [H0]; · iexact H0
  isplitl [H1]; · iexact H1
  isplitl [H2]; · iexact H2
  isplitl [H3]; · iexact H3
  isplitl [H4]; · iexact H4
  iexact H5

omit [FloatOps F] in
/-- The parts' rows, put together: each row at what its part gives it. -/
theorem own_whole (Y : Fin 6 → Arr (Elt F e)) :
    (bigSep Finset.univ fun i : Fin 6 => own (F := F) c M (lo (part i) c 0) (8 * (part i).h) (Y i)) ⊢ own c M 0 2048 fun r => Y (pt r) r := by
  refine BIBase.Entails.trans (bsMono fun i => own_congr c M (Y := fun r => Y (pt r) r) fun r h1 h2 l => ?_) ?_
  · rw [lo0_eq] at h1 h2
    rw [n0_eq] at h2
    rw [pt_eq i r h1 h2]
  generalize (fun r => Y (pt r) r) = X
  simp only [lo0_eq, n0_eq]
  rw [bs6]
  simp only [b0, n0]
  iintro ⟨H0, H1, H2, H3, H4, H5⟩
  iapply (own_join c M 0 384 1664 X)
  isplitl [H0]; · iexact H0
  iapply (own_join c M 384 384 1280 X)
  isplitl [H3]; · iexact H3
  iapply (own_join c M 768 384 896 X)
  isplitl [H1]; · iexact H1
  iapply (own_join c M 1152 256 640 X)
  isplitl [H4]; · iexact H4
  iapply (own_join c M 1408 384 256 X)
  isplitl [H2]; · iexact H2
  iexact H5

omit [FloatOps F] in
/-- The same at any contents: all the rows dealt to the parts, -/
theorem ownE_parts : ownE c M 0 2048 ⊢ bigSep Finset.univ fun i : Fin 6 => ownE (F := F) c M (lo (part i) c 0) (8 * (part i).h) := by
  rw [show ownE (F := F) c M 0 2048 = iprop(∃ X : Arr (Elt F e), own c M 0 2048 X) from rfl]
  iintro ⟨%X, H⟩
  ihave H := (own_parts c M X) $$ H
  iapply (bsMono fun i : Fin 6 => ownE_intro (F := F) c M (lo (part i) c 0) (8 * (part i).h) X) $$ H

/-- and put together again. -/
theorem ownE_whole : (bigSep Finset.univ fun i : Fin 6 => ownE (F := F) c M (lo (part i) c 0) (8 * (part i).h)) ⊢ ownE c M 0 2048 := by
  show (bigSep Finset.univ fun i : Fin 6 => iprop(∃ X : Arr (Elt F e), own c M (lo (part i) c 0) (8 * (part i).h) X)) ⊢ _
  iintro H
  ihave H := (BI.bigSep_exists_pi Finset.univ fun (i : Fin 6) (X : Arr (Elt F e)) => own (F := F) c M (lo (part i) c 0) (8 * (part i).h) X) $$ H
  icases H with ⟨%Y, H⟩
  ihave H := (own_whole c M Y) $$ H
  iapply (ownE_intro c M 0 2048 _) $$ H

end tile

/-! ## Buffers and their rows -/

section buf
variable {sp : Space} {n : ℕ} {e : EltTy} (c : Dev nD) (M : Memref sig .tc sp (Sh n) e) (hM : M.IsWhole)

/-- The whole buffer at some contents, named by its reference, and by a view of it. -/
def bufE (b : Ref sig .tc) : sProp 𝕄 := iprop(∃ f : Buf (Elt F) ((c : Thread nD τ).loc b), ((c : Thread nD τ).loc b) ↦{fullShare} f)
/-- The memory under a view, at some contents. -/
def memE : sProp 𝕄 := iprop(∃ f : Buf (Elt F) (M.view.loc (c : Thread nD τ)), M.view.loc (c : Thread nD τ) ↦{fullShare} f)

include hM in
/-- A buffer at some contents is all its rows; -/
theorem rows_of_mem : memE (F := F) c M ⊢ ownE c M 0 n := by
  unfold ownE own memE
  rw [rset_all, hM.set_eq_univ]
  iintro ⟨%f, H⟩
  let g : (k : ℕ) → k < n → Fin 1024 → (Sh n).Idx := fun k hk l a => match a with | 0 => (⟨k, hk⟩ : Fin n) | 1 => (l : Fin 1024)
  iexists (fun r l => if h : r < n then M.view.read (Elt F) f (g r h l) else Classical.arbitrary (Elt F e))
  iexists f
  isplitr
  · ipureintro
    intro j _ _
    refine Eq.trans ?_ (dif_pos (show (j 0).val < n from (j 0).isLt)).symm
    exact congrArg _ (funext fun a => by fin_cases a <;> rfl)
  · iexact H

include hM in
omit [FloatOps F] in
/-- and the other way round. -/
theorem mem_of_rows : ownE c M 0 n ⊢ memE (F := F) c M := by
  unfold ownE own memE
  rw [rset_all, hM.set_eq_univ]
  iintro ⟨%X, %f, -, H⟩
  iexists f
  iexact H

end buf

/-- The scratch of a part. -/
def scr : Fin 6 → Fin 5 → Ref sig .tc
  | 0 => ![cc0_scratch0, cc0_scratch6, cc0_scratch12, cc0_scratch18, cc0_scratch24]
  | 1 => ![cc0_scratch1, cc0_scratch7, cc0_scratch13, cc0_scratch19, cc0_scratch25]
  | 2 => ![cc0_scratch2, cc0_scratch8, cc0_scratch14, cc0_scratch20, cc0_scratch26]
  | 3 => ![cc0_scratch3, cc0_scratch9, cc0_scratch15, cc0_scratch21, cc0_scratch27]
  | 4 => ![cc0_scratch4, cc0_scratch10, cc0_scratch16, cc0_scratch22, cc0_scratch28]
  | 5 => ![cc0_scratch5, cc0_scratch11, cc0_scratch17, cc0_scratch23, cc0_scratch29]

omit [FloatOps F] in
/-- A family of five, one by one. -/
theorem bs5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The parts' scratch buffers are all different. -/
theorem scr_injective : Function.Injective fun x : Fin 6 × Fin 5 => scr x.1 x.2 := by decide +kernel

/-- The scratch's references: each part's, and the gathered buffer's. -/
theorem scr_refs : (Finset.univ.filter fun b : Ref sig .tc => b.isScoped) \ Finset.univ.image (Pipeline.stageRef cfg0.spec)
    = insert cc0_scratch30 (Finset.univ.map ⟨fun x : Fin 6 × Fin 5 => scr x.1 x.2, scr_injective⟩) := by decide +kernel
/-- The gathered rows' buffer is none of them. -/
theorem scr_notMem : cc0_scratch30 ∉ Finset.univ.map ⟨fun x : Fin 6 × Fin 5 => scr x.1 x.2, scr_injective⟩ := by decide +kernel

omit [FloatOps F] in
/-- The scratch, part by part, and the gathered buffer. -/
theorem scopedRest_eq (c : Dev nD) : (Pipeline.scopedRest (Ix := Unit) (Name := ℕ) (U := UU) (Lvl := ℕ) (Val := Elt F) cfg0.spec c : sProp 𝕄)
    = iprop(bufE c cc0_scratch30 ∗ bigSep Finset.univ fun i : Fin 6 => bigSep Finset.univ fun k : Fin 5 => bufE c (scr i k)) := by
  unfold Pipeline.scopedRest
  rw [scr_refs, bigSep_insert scr_notMem, bigSep_map, bigSep_univ_prod]
  rfl

omit [FloatOps F] in
/-- A part's five scratch buffers, one by one. -/
theorem scr_eq (c : Dev nD) (i : Fin 6) : (bigSep Finset.univ fun k : Fin 5 => bufE (F := F) c (scr i k))
    = iprop(memE c (part i).rb ∗ memE c (part i).ac ∗ memE c (part i).st ∗ memE c (part i).sb ∗ memE c (part i).ag) := by
  rw [bs5]
  fin_cases i <;> rfl

/-- They are the part's scratch, as rows; -/
theorem scr_in (c : Dev nD) (i : Fin 6) : (bigSep Finset.univ fun k : Fin 5 => bufE (F := F) c (scr i k)) ⊢ Scr c i := by
  rw [scr_eq]
  exact BI.sep_mono (rows_of_mem c _ (part i).hrb) (BI.sep_mono (rows_of_mem c _ (part i).hac) (BI.sep_mono (rows_of_mem c _ (part i).hst)
    (BI.sep_mono (rows_of_mem c _ (part i).hsb) (rows_of_mem c _ (part i).hag))))

/-- and the other way round. -/
theorem scr_out (c : Dev nD) (i : Fin 6) : Scr c i ⊢ bigSep Finset.univ fun k : Fin 5 => bufE (F := F) c (scr i k) := by
  rw [scr_eq]
  exact BI.sep_mono (mem_of_rows c _ (part i).hrb) (BI.sep_mono (mem_of_rows c _ (part i).hac) (BI.sep_mono (mem_of_rows c _ (part i).hst)
    (BI.sep_mono (mem_of_rows c _ (part i).hsb) (mem_of_rows c _ (part i).hag))))

/-! ## The arrays -/

variable (m : (ℓ : Loc nD τ sig) → Buf (Elt F) ℓ) (ρ : Dev nD → PrngReg)

/-- The start: any memory, every counter at zero. -/
def s₀ : MemSt nD τ sig (Elt F) := ⟨m, fun _ => 0, ρ⟩

/-- The result on device `c`. -/
def outAll (c : Dev nD) : Arr (F .f32) := fun r => out m (pt r) c r

/-- An index is its row and its lane. -/
theorem ix2_eq (j : (Sh 2048).Idx) : ix2 (j 0).val (j 1) = j := by
  funext a
  fin_cases a
  · exact Fin.ext (Nat.mod_eq_of_lt (j 0).isLt)
  · rfl

/-- The argument's array is its rows. -/
theorem arg_in (c : Dev nD) : (((c : Thread nD τ).loc main_arg0) ↦{fullShare} m ((c : Thread nD τ).loc main_arg0) : sProp 𝕄) ⊢ own c xM 0 2048 (Xr m c) := by
  unfold own
  rw [rset_all, Memref.IsWhole.set_eq_univ (Memref.isWhole_whole _)]
  iintro H
  iexists (m ((c : Thread nD τ).loc main_arg0))
  isplitr
  · ipureintro
    intro j _ _
    unfold Xr
    rw [ix2_eq]
  · iexact H

/-- What reading an array of a final memory gives. -/
theorem own_read (c : Dev nD) {sp : Space} {e : EltTy} (M : Memref sig .tc sp (Sh 2048) e) (hM : M.IsWhole) (X : Arr (Elt F e)) (s' : Phys nD τ sig (Elt F)) :
    iprop(own (F := F) c M 0 2048 X ∗ SI s') ⊢ (⌜∀ j, M.view.read (Elt F) (s'.mem.mem (M.view.loc (c : Thread nD τ))) j = X (j 0).val (j 1)⌝ : sProp 𝕄) := by
  unfold own
  rw [rset_all, hM.set_eq_univ]
  iintro ⟨⟨%f, %hf, H⟩, HSI⟩
  ihave %h := (SI_pointsTo_agree (st := s') (ℓ := M.view.loc (c : Thread nD τ)) (f := f)) $$ [H HSI]
  · isplitl [HSI] <;> iassumption
  ipureintro
  intro j
  have h2 : (j 0).val < 2048 := (j 0).isLt
  rw [← hf j (Nat.zero_le _) (by omega), show s'.mem.mem (M.view.loc (c : Thread nD τ)) = f from funext fun i => h i (Finset.mem_univ i)]

/-! ## The launch's data -/

/-- What device `c`'s body starts from, but the scratch. -/
def start (c : Dev nD) : sProp 𝕄 :=
  iprop((G' m c ∗ (bigSep Finset.univ fun i : Fin 6 => cvs c i)) ∗ cred (tallyAt (cell c none) () 3)
    ∗ (bigSep Finset.univ fun i : Fin 6 => bigSep Finset.univ fun s : Fin 6 => cred (tallyAt (cell c (some (true, i, s))) () (crd i s)))
    ∗ levAts L lv ∗ own c xM 0 2048 (Xr m c) ∗ ownE c oM 0 2048)

/-- What the body starts from. -/
def Φ₀ (c : Dev nD) : sProp 𝕄 :=
  iprop(start m c ∗ ownE c gM 0 2048 ∗ bigSep Finset.univ fun i : Fin 6 => Scr c i)

/-- What is left for the final memory to be read: the barrier's counter, the argument, the result. -/
def fin (c : Dev nD) : sProp 𝕄 := iprop(unscopedSems0 c ∗ own c xM 0 2048 (Xr m c) ∗ own c oM 0 2048 (outAll m c))

/-- What it ends with. -/
def Φ₁ (c : Dev nD) : sProp 𝕄 :=
  iprop(fin m c ∗ Pipeline.ownSems0 osem c ∗ ownE c gM 0 2048 ∗ bigSep Finset.univ fun i : Fin 6 => Scr c i)

/-- The launch's data: no window, the body from `Φ₀` to `Φ₁`. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The start, dealt to the barrier and the parts. -/
theorem start_deal (c : Dev nD) : Φ₀ m c ⊢ iprop(∃ κ, Ctx m κ ∗ BarL c ∗ bigSep Finset.univ fun i : Fin 6 => PartPre m c i) := by
  unfold Φ₀ start G' lin Ps Ctx BarL PartPre Loc0 Lk
  iintro ⟨⟨⟨⟨%κ, HR, HaB, HtB, HP⟩, Hcv⟩, HcB, HcX, Hlev, Hx, Ho⟩, Hg, HS⟩
  iexists κ
  isplitl [HR Hlev]
  · isplitl [HR] <;> iassumption
  isplitl [HtB HaB HcB]
  · isplitl [HtB]; · iexact HtB
    isplitl [HaB] <;> iassumption
  ihave Hx := (own_parts c xM (Xr m c)) $$ Hx
  ihave Ho := (ownE_parts c oM) $$ Ho
  ihave Hg := (ownE_parts c gM) $$ Hg
  simp only [bigSep_sep']
  icases HP with ⟨⟨Ha1, Ha2⟩, Ht1, Ht2⟩
  isplitl [Hx]; · iexact Hx
  isplitl [Ho]; · iexact Ho
  isplitl [Hg HS Hcv]
  · isplitl [Hg]; · iexact Hg
    isplitl [HS]; · iexact HS
    iapply (bsMono fun i : Fin 6 => show cvs (F := F) c i ⊢ bigSep Finset.univ fun j : Fin 6 => cv c i j from Entails.of_eq (by unfold cvs cv; rw [part_ix])) $$ Hcv
  isplitl [Ht1]; · iexact Ht1
  isplitl [Ht2]; · iexact Ht2
  isplitl [Ha1]; · iexact Ha1
  isplitl [Ha2]; · iexact Ha2
  iexact HcX

/-- What the body leaves, put together. -/
theorem end_gather (c : Dev nD) : iprop(semVal (cell c none) 0 ∗ bigSep Finset.univ fun i : Fin 6 => PartPost m c i) ⊢ Φ₁ m c := by
  unfold Φ₁ fin PartPost Loc0
  rw [ownSems0_eq, unscopedSems0_eq]
  simp only [bigSep_sep']
  iintro ⟨HB, Hx, Ho, ⟨Hg, HS, Hcv⟩, HD⟩
  isplitl [HB Hx Ho]
  · isplitl [HB]; · iexact HB
    isplitl [Hx]; · iapply (own_whole c xM fun _ => Xr m c) $$ Hx
    iapply (own_whole c oM fun i => out m i c) $$ Ho
  isplitl [HD Hcv]
  · isplitl [HD]; · iexact HD
    iapply (bsMono fun i : Fin 6 => show (bigSep Finset.univ fun j : Fin 6 => cv c i j) ⊢ cvs (F := F) c i from Entails.of_eq (by unfold cvs cv; rw [part_ix])) $$ Hcv
  isplitl [Hg]; · iapply (ownE_whole c gM) $$ Hg
  iexact HS

/-! ## The body -/

omit [FloatOps F] in
/-- A family of nothing. -/
theorem bsNone (Φ : Fin 0 → sProp 𝕄) : bigSep Finset.univ Φ = iprop(emp) := by
  rw [show (Finset.univ : Finset (Fin 0)) = ∅ from rfl]; rfl

/-- The body, between what the launch gives and what it takes back. -/
theorem sound_body (c : Dev nD) (t : Fin cfg0.N) (Q : PUnit → sProp 𝕄) :
    iprop(Φ₀ m c ∗ OW c (O₀ c) ∗ (iprop(Φ₁ m c ∗ OW c 0) -∗ Q ⟨⟩)) ⊢ WP c (bodyAt0 t) Q := by
  rw [body_eq]
  unfold body
  simp only [Prog.lift, Prog.bind_op, Prog.bind_ret, wp_deviceId]
  iintro ⟨HΦ, HO, HQ⟩
  ihave H := (start_deal m c) $$ HΦ
  icases H with ⟨%κ, HC, HB, HP⟩
  iapply (wp_run m κ c _)
  isplitl [HC]; · iexact HC
  isplitl [HB]; · iexact HB
  isplitl [HP]; · iexact HP
  isplitl [HO]; · iexact HO
  iintro ⟨HB, HP, HO⟩
  iapply HQ
  isplitl [HB HP]
  · iapply (end_gather m c)
    isplitl [HB] <;> iassumption
  · iexact HO

/-- The pipeline's body is the kernel's. -/
theorem body_row (t : Fin cfg0.N) : defs₀ (F := F) Proc.tc cfg0.body (cfg0.bodyArgs t (cfg0.slots t)) = bodyAt0 t := by
  chain_rfl

/-- The body goes from `Φ₀` to `Φ₁`. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(emp) from bsNone, show ∀ Φ : Fin cfg0.W → sProp 𝕄, bigSep Finset.univ Φ = iprop(emp) from bsNone, body_row,
    show (dats m 0 c).Φ t0_0.castSucc = Φ₀ m c from rfl, show (dats m 0 c).Φ t0_0.succ = Φ₁ m c from rfl]
  unfold Dat.owesAt Pipeline.owesWithin
  rw [show (dats m 0 c).owed t0_0.castSucc = O₀ c from rfl, show (dats m 0 c).owed t0_0.succ = 0 from rfl]
  iintro ⟨HΦ, ⟨%W, -, HO⟩, -⟩
  iapply (sound_body m c t0_0 _)
  isplitl [HΦ]; · iexact HΦ
  unfold OW
  isplitl [HO]; · iexists W; iexact HO
  iintro ⟨HΦ, %W', HO⟩
  isplitl [HΦ]; · iexact HΦ
  isplitl [HO]
  · iexists W'
    isplitr; · ipureintro; exact fun _ _ => Or.inl trivial
    iexact HO
  · iempintro

/-! ## The launch -/

/-- There is no window to share. -/
theorem share_eq (c : Dev nD) (w : Fin cfg0.W) : (dats (F := F) m 0 c).share w = fullShare := w.elim0

/-- The launch gives what the body starts from, but the scratch. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c ∗ bigSep Finset.univ fun i : Fin 6 => cvs c i)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Hx]; · iapply (arg_in m c) $$ Hx
    iapply (rows_of_mem c oM (Memref.isWhole_whole _))
    unfold memE
    iexists (m ((c : Thread nD τ).loc main_v1))
    iexact Ho
  · iempintro

/-- With the scratch it is `Φ₀`. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest_eq]
  unfold Φ₀
  iintro ⟨Hs, -, Hg, HS⟩
  isplitl [Hs]; · iexact Hs
  isplitl [Hg]; · iapply (show bufE (F := F) c cc0_scratch30 ⊢ ownE c gM 0 2048 from rows_of_mem c gM (Memref.isWhole_whole _)) $$ Hg
  iapply (bsMono fun i : Fin 6 => scr_in (F := F) c i) $$ HS

/-- `Φ₁` gives back the scratch, the counters at zero, and what the final memory is read from. -/
theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl, scopedRest_eq]
  unfold Φ₁
  iintro ⟨Hf, Hs, Hg, HS⟩
  isplitl [Hf]; · iexact Hf
  isplitl [Hs]; · iexact Hs
  isplitl [Hg]; · iapply (show ownE c gM 0 2048 ⊢ bufE (F := F) c cc0_scratch30 from mem_of_rows c gM (Memref.isWhole_whole _)) $$ Hg
  iapply (bsMono fun i : Fin 6 => scr_out (F := F) c i) $$ HS

/-- There is no window to wait for. -/
theorem waits (c : Dev nD) : (levAts L lv : sProp 𝕄) ⊢ Pipeline.cellsWaits cfgs (dats m) () 0 c :=
  Pipeline.cellsWaits_intro cfgs (dats m) () 0 c fun w => w.elim0

/-- What a final memory holds on device `c`. -/
def Fin1 (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ ∀ j : (Sh 2048).Idx, oM.view.read (Elt F) (s.mem (oM.view.loc (c : Thread nD τ))) j = outAll m c (j 0).val (j 1)

/-- What is left tells what the final memory holds. -/
theorem fin_read (c : Dev nD) (s' : Phys nD τ sig (Elt F)) :
    iprop(fin m c ∗ emp ∗ SI s') ⊢ |={Set.univ}=> iprop(⌜Fin1 m c s'.mem⌝ ∗ SI s') := by
  unfold fin
  iintro ⟨⟨Hu, Hx, Ho⟩, -, HSI⟩
  ihave %hx := (own_read c xM (Memref.isWhole_whole _) (Xr m c) s') $$ [Hx HSI]
  · isplitl [Hx] <;> iassumption
  ihave %ho := (own_read c oM (Memref.isWhole_whole _) (outAll m c) s') $$ [Ho HSI]
  · isplitl [Ho] <;> iassumption
  imod (Pipeline.unscopedSems0_read (X := unscopedSems0 c) (c := c) fupd_intro s') $$ [Hu HSI] with ⟨%hu, HSI⟩
  · isplitl [Hu] <;> iassumption
  imodintro
  isplitr
  · ipureintro
    refine ⟨hu, funext fun j => ?_, ho⟩
    have h := hx j
    unfold Xr at h
    rw [ix2_eq] at h
    exact h
  · iexact HSI

set_option maxRecDepth 8000 in
/-- At any float values, from any memory with zero counters: every weakly fair execution of the program on the
    eight devices terminates, and every final state has on each device the argument unchanged and the result at
    `outAll`, and every semaphore counter at zero. -/
theorem run_main : θ_run defs (onTc (τ := τ) (main (F := F))) (s₀ m ρ)
    (fun r => (∀ c : Dev nD, Fin1 m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := fun c => iprop(G' m c ∗ bigSep Finset.univ fun i : Fin 6 => cvs c i)) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (show BI.own (((Emb.inl : Emb UB (UB × Counters)).trans embR) (initOf allCells allToks)) ⊢ (|==> bigSep Finset.univ (G m) : sProp 𝕄) from fund_all m) $$ HX with HG
      imodintro
      isplitl [HP] <;> iassumption)
    (hglob := glob m)
    (hA := fun _ w => w.elim0) (hpf := fun _ k => k.elim0)
    (X := start m) (Y := fin m) (Z := fun _ => iprop(emp))
    (hX := start_intro m ρ) (hin := phi0_intro m) (hout := phi1_exit m)
    (QY := Fin1 m)
    (hY := fin_read m)
    (hQ := fun _ h hs => ⟨fun c => (h c).2.2, sem_eq_zero hs fun c => (h c).2.2.1⟩)

end Cert.AllReduce

end
-- ==== Proof.Value.lean ====
/-
The value.

At exact arithmetic rounding to sixteen bits changes nothing, so a phase adds to a device's rows the
rows of its neighbour along one axis. After the three phases each device holds the sum over all eight
devices, whichever order the axes came in; the rows a device computes and the rows it is sent are then
the same function of that one sum, and that is the reference's result.
-/
module

public import proofs.«01_k».proof.Proof.Run
public import proofs.«01_k».proof.Proof.Gen.ReferenceIdeal.Run
public import Idealize.ShloMosaic.Lib.Layout
public import Idealize.ShloMosaic.Lib.Pointwise.Tactic
public import Idealize.ShloMosaic.Lib.Pointwise.Reduce
public import Idealize.ShloMosaic.Lib.Pipeline.Value

@[expose] public section

noncomputable section

namespace Cert.AllReduce

open Idealize.ShloMosaic Idealize.ShloMosaic.TcCoe Idealize.SL.Sem
open Cert.KernelIdeal Cert.KernelIdeal.Gen

/-! ## Three exchanges make the sum over all devices -/

/-- Device `c`, or its neighbour along axis `a`. -/
def hop (z : Fin 2) (a : Fin 3) (c : Dev nD) : Dev nD := if z = 0 then c else nbr c a

/-- From any device, hopping or not along each of three different axes reaches every device once. -/
theorem hop_bijective : ∀ (a b d : Fin 3) (c : Dev nD), a ≠ b → a ≠ d → b ≠ d →
    Function.Bijective fun p : Fin 2 × Fin 2 × Fin 2 => hop p.2.2 a (hop p.2.1 b (hop p.1 d c)) := by
  decide +kernel

/-- A device's value plus its neighbour's. -/
def swap (a : Fin 3) (A : Dev nD → EReal) (c : Dev nD) : EReal := A c + A (nbr c a)

/-- It is the sum over hopping or not. -/
theorem swap_eq (a : Fin 3) (A : Dev nD → EReal) (c : Dev nD) : swap a A c = ∑ z : Fin 2, A (hop z a c) := by
  rw [Fin.sum_univ_two]; rfl

/-- Along three different axes one after the other: the sum over all devices, on every device. -/
theorem swap3 (a b d : Fin 3) (hab : a ≠ b) (had : a ≠ d) (hbd : b ≠ d) (A : Dev nD → EReal) (c : Dev nD) :
    swap d (swap b (swap a A)) c = ∑ e : Dev nD, A e := by
  rw [← (hop_bijective a b d c hab had hbd).sum_comp A, Fintype.sum_prod_type, swap_eq]
  refine Finset.sum_congr rfl fun z _ => ?_
  rw [Fintype.sum_prod_type, swap_eq]
  exact Finset.sum_congr rfl fun y _ => swap_eq a A _

/-- A part's three phases cross three different axes. -/
theorem ax_ne : ∀ i : Fin 6, (part i).ax 0 ≠ (part i).ax 1 ∧ (part i).ax 0 ≠ (part i).ax 2 ∧ (part i).ax 1 ≠ (part i).ax 2 := by
  decide +kernel

variable (m : (ℓ : Loc nD τ sig) → Buf (Elt Ideal) ℓ)

/-- After its three phases a part's rows hold, on every device, the sum over all devices. -/
theorem acc3 (i : Fin 6) (c : Dev nD) (r : ℕ) (l : Fin 1024) :
    acc (F := Ideal) m i 3 c r l = (∑ e : Dev nD, (Xr (F := Ideal) m e r l : EReal) : EReal) :=
  swap3 _ _ _ (ax_ne i).1 (ax_ne i).2.1 (ax_ne i).2.2 (fun e => (Xr (F := Ideal) m e r l : EReal)) c

/-- The sum over all devices of their arguments. -/
def total : Arr (Ideal .f32) := fun r l => (∑ e : Dev nD, (Xr (F := Ideal) m e r l : EReal) : EReal)

/-- What a device computes of a part is the same function of that sum on every device and for every part. -/
theorem res_eq (i : Fin 6) (c : Dev nD) : res (F := Ideal) m i c = epiA (total m) := by
  unfold res
  exact congrArg epiA (funext fun r => funext fun l => acc3 m i c r l)

/-- So is the whole result, the rows a device computed and the rows it was sent alike. -/
theorem outAll_eq (c : Dev nD) : outAll (F := Ideal) m c = epiA (total m) := by
  funext r l
  unfold outAll out
  split_ifs
  · rw [res_eq]
  · show bfA (res (F := Ideal) m (pt r) (owner (pt r) r)) r l = _
    rw [res_eq]
    rfl

/-! ## The reference -/

/-- The reference's sum, its argument reshaped to one block per device and added up. -/
def refSum (y : FVec Ideal ⟨2, ![16384, 1024]⟩ .f32) : FVec Ideal ⟨2, ![2048, 1024]⟩ .f32 :=
  Host.reduceAdd (shapeCast _ y Cert.ReferenceIdeal.Gen.shapeCasts_S16384x1024_S8x2048x1024)
    (constant Cert.ReferenceIdeal.S_ .f32 0x00000000#32)
    Cert.ReferenceIdeal.Gen.reducesTo_S8x2048x1024_S2048x1024_d0 Cert.ReferenceIdeal.Gen.h_S_

/-- Row `r` of it is the sum over the devices of row `r` of their blocks. -/
theorem refSum_apply (y : FVec Ideal ⟨2, ![16384, 1024]⟩ .f32) (h : Layout.Tiles ⟨2, ![2048, 1024]⟩ ⟨2, ![16384, 1024]⟩ 0 8)
    (j : (Sh 2048).Idx) :
    refSum y j = (∑ e : Fin 8, (Layout.block ⟨2, ![2048, 1024]⟩ ⟨2, ![16384, 1024]⟩ 0 8 e y h j : EReal) : EReal) := by
  unfold refSum
  rw [Host.reduceAdd_apply, Ideal.hostReduceAdd_def, Ideal.hostReduceAdd_r3_a0]
  rw [show (constant (F := Ideal) Cert.ReferenceIdeal.S_ .f32 0x00000000#32 (Shape.Idx.first Cert.ReferenceIdeal.Gen.h_S_) : EReal) = 0
    from Ideal.ofBits_zero_f32, zero_add]
  refine Finset.sum_congr rfl fun e _ => ?_
  rw [Layout.block_apply]
  refine shapeCast_apply _ _ _ _ ?_
  rw [Shape.rowMajor_val_two, Shape.rowMajor_val_three]
  rfl

/-- The reference's result, from its argument. -/
def refOut (y : FVec Ideal ⟨2, ![16384, 1024]⟩ .f32) : FVec Ideal ⟨2, ![2048, 1024]⟩ .f32 :=
  addf (mulf (mulf (Host.tanh (refSum y)) (refSum y)) (refSum y))
    (mulf (mulf (maximumf (refSum y) (broadcastInDim _ ![] Cert.ReferenceIdeal.Gen.bcast_S_S2048x1024 (constant Cert.ReferenceIdeal.S_ .f32 0x00000000#32)))
      (maximumf (refSum y) (broadcastInDim _ ![] Cert.ReferenceIdeal.Gen.bcast_S_S2048x1024 (constant Cert.ReferenceIdeal.S_ .f32 0x00000000#32))))
      (maximumf (refSum y) (broadcastInDim _ ![] Cert.ReferenceIdeal.Gen.bcast_S_S2048x1024 (constant Cert.ReferenceIdeal.S_ .f32 0x00000000#32))))

/-- When each device's argument is its block of the reference's, every device's result is the reference's. -/
theorem outAll_refOut (y : FVec Ideal ⟨2, ![16384, 1024]⟩ .f32) (h : Layout.Tiles ⟨2, ![2048, 1024]⟩ ⟨2, ![16384, 1024]⟩ 0 8)
    (hm : ∀ c : Dev nD, m ((c.tc : Thread nD τ).loc main_arg0) = Layout.block ⟨2, ![2048, 1024]⟩ ⟨2, ![16384, 1024]⟩ 0 8 c y h)
    (c : Dev nD) (j : (Sh 2048).Idx) : outAll (F := Ideal) m c (j 0).val (j 1) = refOut y j := by
  have ht : total m (j 0).val (j 1) = refSum y j := by
    rw [refSum_apply y h j]
    unfold total
    refine Finset.sum_congr rfl fun e _ => ?_
    rw [← hm e]
    unfold Xr
    rw [ix2_eq]
    rfl
  rw [outAll_eq]
  show FloatOps.addf (FloatOps.mulf (FloatOps.mulf (FloatOps.tanh (total m (j 0).val (j 1))) (total m (j 0).val (j 1))) (total m (j 0).val (j 1)))
    (FloatOps.mulf (FloatOps.mulf (FloatOps.maximumf (total m (j 0).val (j 1)) _) (FloatOps.maximumf (total m (j 0).val (j 1)) _))
      (FloatOps.maximumf (total m (j 0).val (j 1)) _)) = _
  rw [ht]
  rfl

end Cert.AllReduce

end
-- ==== Proof.lean ====
/-
The claim: the fused all-reduce followed by `tanh(s)·s² + max(s, 0)³` on eight devices.

* Every fair run of the kernel ends, with its argument as it was and every counter at zero, on the
  machine's own numbers and at exact arithmetic; and so does every run of the reference.
* The kernel at exact arithmetic is the kernel itself, no operation replaced.
* At exact arithmetic every device's whole result is the reference's result, each device's argument
  being its block of the reference's.
-/
module

public import proofs.«01_k».proof.Defs
public import proofs.«01_k».proof.Proof.Gen.Kernel
public import proofs.«01_k».proof.Proof.Value
public import Idealize.ShloMosaic.Adequacy
public import Idealize.ShloMosaic.Init

@[expose] public section

noncomputable section

namespace Cert.Proof

open Idealize.ShloMosaic Idealize.SL.Sem

/-- The kernel at exact arithmetic ends on every fair run, its argument as it was, its counters at zero. -/
theorem frame_kernelIdeal : Cert.quiescent_KernelIdeal := fun m g _ =>
  (θ_run Cert.KernelIdeal.defs _ _).mono (fun _ h => ⟨fun c => (h.1 c).2.1, h.2⟩)
    (Cert.AllReduce.run_main (F := Ideal) m g)

/-- So does the kernel on the machine's numbers: the same program, whose run is proved for any numbers. -/
theorem frame_kernel : Cert.quiescent_Kernel := fun m g _ =>
  (θ_run Cert.Kernel.defs _ _).mono (fun _ h => ⟨fun c => (h.1 c).2.1, h.2⟩)
    (Cert.AllReduce.run_main (F := Bits) m g)

/-- The reference ends, its argument as it was, its counters at zero. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device's result is the reference's. -/
theorem algebraic : Cert.algebraic_KernelIdeal_ReferenceIdeal := fun m g m' g' _ hm =>
  ⟨Cert.AllReduce.refOut (m' ((0 : Dev Cert.ReferenceIdeal.nD).tc.loc Cert.ReferenceIdeal.main_arg0)),
    (θ_run Cert.KernelIdeal.defs _ _).mono
      (fun _ h c => ⟨funext fun j => ((h.1 c).2.2 j).trans (Cert.AllReduce.outAll_refOut m _ _ hm c j), (h.1 c).2.1⟩)
      (Cert.AllReduce.run_main (F := Ideal) m g),
    (θ_run Cert.ReferenceIdeal.defs _ _).mono (fun _ h => h 0) (Cert.ReferenceIdeal.Value.run (F := Ideal) m' g')⟩

/-- All of it. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
